-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xDA388472#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S2048x2048 : Shape := ⟨2, ![2048, 2048]⟩
abbrev S256x1024 : Shape := ⟨2, ![256, 1024]⟩
abbrev S8x128 : Shape := ⟨2, ![8, 128]⟩
abbrev S1024x512 : Shape := ⟨2, ![1024, 512]⟩
abbrev S8x64 : Shape := ⟨2, ![8, 64]⟩
abbrev S512x256 : Shape := ⟨2, ![512, 256]⟩
abbrev S1024x1024 : Shape := ⟨2, ![1024, 1024]⟩
abbrev S512x2048 : Shape := ⟨2, ![512, 2048]⟩
abbrev S2048x1024 : Shape := ⟨2, ![2048, 1024]⟩
abbrev S2048x8 : Shape := ⟨2, ![2048, 8]⟩
abbrev S8x2048 : Shape := ⟨2, ![8, 2048]⟩
abbrev S2048x512 : Shape := ⟨2, ![2048, 512]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S512x1 : Shape := ⟨2, ![512, 1]⟩
abbrev S1x2048 : Shape := ⟨2, ![1, 2048]⟩
abbrev S512 : Shape := ⟨1, ![512]⟩
abbrev S512x128 : Shape := ⟨2, ![512, 128]⟩
abbrev S2048x64 : Shape := ⟨2, ![2048, 64]⟩
abbrev S1x64 : Shape := ⟨2, ![1, 64]⟩
abbrev S512x64 : Shape := ⟨2, ![512, 64]⟩
abbrev S1024x256 : Shape := ⟨2, ![1024, 256]⟩
abbrev S1048576 : Shape := ⟨1, ![1048576]⟩

abbrev nBuf : Space → Nat
  | .hbm => 12
  | .vmem => 20
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x1024, .f32⟩
  | .hbm, ⟨3, _⟩ => ⟨S8x128, .f32⟩
  | .hbm, ⟨4, _⟩ => ⟨S8x128, .f32⟩
  | .hbm, ⟨5, _⟩ => ⟨S1024x512, .f32⟩
  | .hbm, ⟨6, _⟩ => ⟨S8x64, .f32⟩
  | .hbm, ⟨7, _⟩ => ⟨S8x64, .f32⟩
  | .hbm, ⟨8, _⟩ => ⟨S512x256, .f32⟩
  | .hbm, ⟨9, _⟩ => ⟨S512x256, .f32⟩
  | .hbm, ⟨10, _⟩ => ⟨S1024x1024, .f32⟩
  | .hbm, ⟨11, _⟩ => ⟨S1048576, .f32⟩
  | .local _ .vmem, ⟨0, _⟩ => ⟨S2048x256, .f32⟩
  | .local _ .vmem, ⟨1, _⟩ => ⟨S512x2048, .f32⟩
  | .local _ .vmem, ⟨2, _⟩ => ⟨S512x2048, .f32⟩
  | .local _ .vmem, ⟨3, _⟩ => ⟨S256x1024, .f32⟩
  | .local _ .vmem, ⟨4, _⟩ => ⟨S8x128, .f32⟩
  | .local _ .vmem, ⟨5, _⟩ => ⟨S8x128, .f32⟩
  | .local _ .vmem, ⟨6, _⟩ => ⟨S1024x512, .f32⟩
  | .local _ .vmem, ⟨7, _⟩ => ⟨S8x64, .f32⟩
  | .local _ .vmem, ⟨8, _⟩ => ⟨S8x64, .f32⟩
  | .local _ .vmem, ⟨9, _⟩ => ⟨S512x256, .f32⟩
  | .local _ .vmem, ⟨10, _⟩ => ⟨S512x256, .f32⟩
  | .local _ .vmem, ⟨11, _⟩ => ⟨S1024x1024, .f32⟩
  | .local _ .vmem, ⟨12, _⟩ => ⟨S2048x1024, .bf16⟩
  | .local _ .vmem, ⟨13, _⟩ => ⟨S2048x8, .f32⟩
  | .local _ .vmem, ⟨14, _⟩ => ⟨S8x2048, .f32⟩
  | .local _ .vmem, ⟨15, _⟩ => ⟨S2048x1024, .bf16⟩
  | .local _ .vmem, ⟨16, _⟩ => ⟨S2048x512, .bf16⟩
  | .local _ .vmem, ⟨17, _⟩ => ⟨S2048x8, .f32⟩
  | .local _ .vmem, ⟨18, _⟩ => ⟨S8x2048, .f32⟩
  | .local _ .vmem, ⟨19, _⟩ => ⟨S2048x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c4_i32 : BitVec 32 := 4#32
  let v4 : BitVec 1 := Scalar.cmpi .sle arg0 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v25 : Index := Scalar.indexCast v18
  let c0_9 : Index := 0#32
  ![v25.toNat, 0]
def k0_off2 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v87 : Index := Scalar.indexCast v18
  let c0_33 : Index := 0#32
  ![v87.toNat, 0]
def k0_off3 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v91 : Index := Scalar.indexCast v18
  let c1 : Index := 1#32
  ![v91.toNat, 1]
def k0_off4 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v153 : Index := Scalar.indexCast v18
  let c128_56 : Index := 128#32
  ![v153.toNat, 128]
def k0_off5 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v157 : Index := Scalar.indexCast v18
  let c2 : Index := 2#32
  ![v157.toNat, 2]
def k0_off6 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v219 : Index := Scalar.indexCast v18
  let c256_79 : Index := 256#32
  ![v219.toNat, 256]
def k0_off7 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v223 : Index := Scalar.indexCast v18
  let c3 : Index := 3#32
  ![v223.toNat, 3]
def k0_off8 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v285 : Index := Scalar.indexCast v18
  let c384_102 : Index := 384#32
  ![v285.toNat, 384]
def k0_off9 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v289 : Index := Scalar.indexCast v18
  let c4 : Index := 4#32
  ![v289.toNat, 4]
def k0_off10 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v351 : Index := Scalar.indexCast v18
  let c512_125 : Index := 512#32
  ![v351.toNat, 512]
def k0_off11 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v355 : Index := Scalar.indexCast v18
  let c5 : Index := 5#32
  ![v355.toNat, 5]
def k0_off12 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v417 : Index := Scalar.indexCast v18
  let c640_148 : Index := 640#32
  ![v417.toNat, 640]
def k0_off13 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v421 : Index := Scalar.indexCast v18
  let c6 : Index := 6#32
  ![v421.toNat, 6]
def k0_off14 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v483 : Index := Scalar.indexCast v18
  let c768_171 : Index := 768#32
  ![v483.toNat, 768]
def k0_off15 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v487 : Index := Scalar.indexCast v18
  let c7 : Index := 7#32
  ![v487.toNat, 7]
def k0_off16 (i : grid0.Coords) : Fin 2 → Nat :=
  let arg0 : BitVec 32 := BitVec.ofNat 32 (i 0).val
  let c1_i32_5 : BitVec 32 := 1#32
  let v17 : BitVec 32 := Scalar.subi arg0 c1_i32_5
  let c512_i32 : BitVec 32 := 512#32
  let v18 : BitVec 32 := Scalar.muli v17 c512_i32
  let v549 : Index := Scalar.indexCast v18
  let c896_194 : Index := 896#32
  ![v549.toNat, 896]
def k0_cond4 (i : grid0.Coords) : BitVec 1 :=
  let arg0 : BitVec 32 := BitVec.ofNat 32 (i 0).val
  let c6_i32 : BitVec 32 := 6#32
  let v11 : BitVec 1 := Scalar.cmpi .sge arg0 c6_i32
  let v12 : BitVec 32 := Scalar.extui v11
  let c0_i32_3 : BitVec 32 := 0#32
  let v13 : BitVec 1 := Scalar.cmpi .ne v12 c0_i32_3
  v13

def k0_off17 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v26 : Index := Scalar.indexCast v19
  let c0_9 : Index := 0#32
  ![v26.toNat, 0]
def k0_off18 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v88 : Index := Scalar.indexCast v19
  let c0_33 : Index := 0#32
  ![v88.toNat, 0]
def k0_off19 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v92 : Index := Scalar.indexCast v19
  let c1 : Index := 1#32
  ![v92.toNat, 1]
def k0_off20 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v154 : Index := Scalar.indexCast v19
  let c64_56 : Index := 64#32
  ![v154.toNat, 64]
def k0_off21 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v158 : Index := Scalar.indexCast v19
  let c2 : Index := 2#32
  ![v158.toNat, 2]
def k0_off22 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v220 : Index := Scalar.indexCast v19
  let c128_79 : Index := 128#32
  ![v220.toNat, 128]
def k0_off23 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v224 : Index := Scalar.indexCast v19
  let c3 : Index := 3#32
  ![v224.toNat, 3]
def k0_off24 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v286 : Index := Scalar.indexCast v19
  let c192_102 : Index := 192#32
  ![v286.toNat, 192]
def k0_off25 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v290 : Index := Scalar.indexCast v19
  let c4 : Index := 4#32
  ![v290.toNat, 4]
def k0_off26 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v352 : Index := Scalar.indexCast v19
  let c256_125 : Index := 256#32
  ![v352.toNat, 256]
def k0_off27 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v356 : Index := Scalar.indexCast v19
  let c5 : Index := 5#32
  ![v356.toNat, 5]
def k0_off28 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v418 : Index := Scalar.indexCast v19
  let c320_148 : Index := 320#32
  ![v418.toNat, 320]
def k0_off29 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v422 : Index := Scalar.indexCast v19
  let c6 : Index := 6#32
  ![v422.toNat, 6]
def k0_off30 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v484 : Index := Scalar.indexCast v19
  let c384_171 : Index := 384#32
  ![v484.toNat, 384]
def k0_off31 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v488 : Index := Scalar.indexCast v19
  let c7 : Index := 7#32
  ![v488.toNat, 7]
def k0_off32 (i : grid0.Coords) : Fin 2 → Nat :=
  let arg0 : BitVec 32 := BitVec.ofNat 32 (i 0).val
  let c4_i32_5 : BitVec 32 := 4#32
  let v17 : BitVec 32 := Scalar.subi arg0 c4_i32_5
  let c2_i32 : BitVec 32 := 2#32
  let v18 : BitVec 32 := Scalar.subi v17 c2_i32
  let c512_i32 : BitVec 32 := 512#32
  let v19 : BitVec 32 := Scalar.muli v18 c512_i32
  let v550 : Index := Scalar.indexCast v19
  let c448_194 : Index := 448#32
  ![v550.toNat, 448]
def k0_cond5 (i : grid0.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 1 := Scalar.cmpi .sle arg0 c4_i32
  let c1_i32 : BitVec 32 := 1#32
  let v1 : BitVec 32 := Scalar.subi arg0 c1_i32
  let c4_i32_0 : BitVec 32 := 4#32
  let v2 : BitVec 32 := Scalar.subi arg0 c4_i32_0
  let c2_i32 : BitVec 32 := 2#32
  let v3 : BitVec 32 := Scalar.subi v2 c2_i32
  let v4 : BitVec 32 := Scalar.select v0 v1 v3
  let c0_i32 : BitVec 32 := 0#32
  let c3_i32 : BitVec 32 := 3#32
  let v5 : BitVec 32 := Scalar.maxsi c0_i32 v4
  let v6 : BitVec 32 := Scalar.minsi c3_i32 v5
  let c0_i32_1 : BitVec 32 := 0#32
  let c0_i32_2 : BitVec 32 := 0#32
  ![v6.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2048x256 : Shape := ⟨2, ![2048, 256]⟩
abbrev S2048x2048 : Shape := ⟨2, ![2048, 2048]⟩
abbrev S256x1024 : Shape := ⟨2, ![256, 1024]⟩
abbrev S8x128 : Shape := ⟨2, ![8, 128]⟩
abbrev S1024x512 : Shape := ⟨2, ![1024, 512]⟩
abbrev S8x64 : Shape := ⟨2, ![8, 64]⟩
abbrev S512x256 : Shape := ⟨2, ![512, 256]⟩
abbrev S2048x1024 : Shape := ⟨2, ![2048, 1024]⟩
abbrev S2048x8x128 : Shape := ⟨3, ![2048, 8, 128]⟩
abbrev S1x8x128 : Shape := ⟨3, ![1, 8, 128]⟩
abbrev S_ : Shape := ⟨0, ![]⟩
abbrev S2048x8 : Shape := ⟨2, ![2048, 8]⟩
abbrev S2048x1x8 : Shape := ⟨3, ![2048, 1, 8]⟩
abbrev S1x2048x8 : Shape := ⟨3, ![1, 2048, 8]⟩
abbrev S2048x2048x8 : Shape := ⟨3, ![2048, 2048, 8]⟩
abbrev S2048x2048x1 : Shape := ⟨3, ![2048, 2048, 1]⟩
abbrev S8x128x2048 : Shape := ⟨3, ![8, 128, 2048]⟩
abbrev S2048x512 : Shape := ⟨2, ![2048, 512]⟩
abbrev S2048x8x64 : Shape := ⟨3, ![2048, 8, 64]⟩
abbrev S1x8x64 : Shape := ⟨3, ![1, 8, 64]⟩
abbrev S8x64x2048 : Shape := ⟨3, ![8, 64, 2048]⟩
abbrev S1024x256 : Shape := ⟨2, ![1024, 256]⟩
abbrev S1024x1024 : Shape := ⟨2, ![1024, 1024]⟩
abbrev S1048576 : Shape := ⟨1, ![1048576]⟩

abbrev nBuf : Space → Nat
  | .hbm => 211
  | .vmem => 0
  | .smem => 0
  | _ => 0

abbrev hbmTy0_0 (i : Nat) : BufTy := match i % 128 with
  | 0 => ⟨S2048x256, .f32⟩
  | 1 => ⟨S2048x2048, .f32⟩
  | 2 => ⟨S256x1024, .f32⟩
  | 3 => ⟨S8x128, .f32⟩
  | 4 => ⟨S8x128, .f32⟩
  | 5 => ⟨S1024x512, .f32⟩
  | 6 => ⟨S8x64, .f32⟩
  | 7 => ⟨S8x64, .f32⟩
  | 8 => ⟨S512x256, .f32⟩
  | 9 => ⟨S512x256, .f32⟩
  | 10 => ⟨S2048x1024, .f32⟩
  | 11 => ⟨S2048x8x128, .f32⟩
  | 12 => ⟨S1x8x128, .f32⟩
  | 13 => ⟨S2048x8x128, .f32⟩
  | 14 => ⟨S2048x8x128, .f32⟩
  | 15 => ⟨S_, .f32⟩
  | 16 => ⟨S2048x8, .f32⟩
  | 17 => ⟨S1x8x128, .f32⟩
  | 18 => ⟨S2048x8x128, .f32⟩
  | 19 => ⟨S2048x8x128, .f32⟩
  | 20 => ⟨S_, .f32⟩
  | 21 => ⟨S2048x8, .f32⟩
  | 22 => ⟨S2048x1x8, .f32⟩
  | 23 => ⟨S1x2048x8, .f32⟩
  | 24 => ⟨S2048x2048x8, .f32⟩
  | 25 => ⟨S2048x2048x8, .f32⟩
  | 26 => ⟨S2048x2048x8, .f32⟩
  | 27 => ⟨S_, .f32⟩
  | 28 => ⟨S2048x2048x8, .f32⟩
  | 29 => ⟨S2048x2048x8, .i1⟩
  | 30 => ⟨S_, .f32⟩
  | 31 => ⟨S2048x2048x8, .f32⟩
  | 32 => ⟨S2048x2048x8, .f32⟩
  | 33 => ⟨S2048x2048x8, .f32⟩
  | 34 => ⟨S_, .f32⟩
  | 35 => ⟨S2048x2048, .f32⟩
  | 36 => ⟨S2048x2048, .i1⟩
  | 37 => ⟨S2048x2048x1, .i1⟩
  | 38 => ⟨S2048x2048x8, .i1⟩
  | 39 => ⟨S_, .f32⟩
  | 40 => ⟨S2048x2048x8, .f32⟩
  | 41 => ⟨S2048x2048x8, .f32⟩
  | 42 => ⟨S_, .f32⟩
  | 43 => ⟨S2048x8, .f32⟩
  | 44 => ⟨S_, .f32⟩
  | 45 => ⟨S2048x8, .f32⟩
  | 46 => ⟨S2048x8, .f32⟩
  | 47 => ⟨S2048x1x8, .f32⟩
  | 48 => ⟨S2048x2048x8, .f32⟩
  | 49 => ⟨S2048x2048x8, .f32⟩
  | 50 => ⟨S2048x2048x8, .f32⟩
  | 51 => ⟨S_, .f32⟩
  | 52 => ⟨S2048x8, .f32⟩
  | 53 => ⟨S2048x1x8, .f32⟩
  | 54 => ⟨S2048x2048x8, .f32⟩
  | 55 => ⟨S2048x2048x8, .f32⟩
  | 56 => ⟨S8x128x2048, .f32⟩
  | 57 => ⟨S2048x8x128, .f32⟩
  | 58 => ⟨S_, .f32⟩
  | 59 => ⟨S2048x8x128, .f32⟩
  | 60 => ⟨S2048x8x128, .i1⟩
  | 61 => ⟨S2048x8x128, .f32⟩
  | 62 => ⟨S_, .f32⟩
  | 63 => ⟨S2048x8x128, .f32⟩
  | 64 => ⟨S2048x8x128, .f32⟩
  | 65 => ⟨S2048x8x128, .f32⟩
  | 66 => ⟨S2048x8x128, .f32⟩
  | 67 => ⟨S2048x8x128, .f32⟩
  | 68 => ⟨S_, .f32⟩
  | 69 => ⟨S2048x8x128, .f32⟩
  | 70 => ⟨S2048x8x128, .f32⟩
  | 71 => ⟨S2048x8x128, .f32⟩
  | 72 => ⟨S2048x8x128, .f32⟩
  | 73 => ⟨S2048x8x128, .f32⟩
  | 74 => ⟨S_, .f32⟩
  | 75 => ⟨S2048x8x128, .f32⟩
  | 76 => ⟨S2048x8x128, .f32⟩
  | 77 => ⟨S2048x8x128, .f32⟩
  | 78 => ⟨S2048x8x128, .f32⟩
  | 79 => ⟨S2048x8x128, .f32⟩
  | 80 => ⟨S2048x8x128, .f32⟩
  | 81 => ⟨S_, .f32⟩
  | 82 => ⟨S2048x8x128, .f32⟩
  | 83 => ⟨S2048x8x128, .f32⟩
  | 84 => ⟨S2048x8x128, .f32⟩
  | 85 => ⟨S2048x8x128, .f32⟩
  | 86 => ⟨S2048x8x128, .f32⟩
  | 87 => ⟨S2048x8x128, .f32⟩
  | 88 => ⟨S_, .f32⟩
  | 89 => ⟨S2048x8x128, .f32⟩
  | 90 => ⟨S2048x8x128, .f32⟩
  | 91 => ⟨S2048x8x128, .f32⟩
  | 92 => ⟨S2048x8x128, .f32⟩
  | 93 => ⟨S2048x8x128, .f32⟩
  | 94 => ⟨S2048x8x128, .f32⟩
  | 95 => ⟨S2048x8x128, .f32⟩
  | 96 => ⟨S_, .f32⟩
  | 97 => ⟨S2048x8x128, .f32⟩
  | 98 => ⟨S2048x8x128, .f32⟩
  | 99 => ⟨S2048x8x128, .f32⟩
  | 100 => ⟨S_, .f32⟩
  | 101 => ⟨S2048x8x128, .f32⟩
  | 102 => ⟨S2048x8x128, .i1⟩
  | 103 => ⟨S2048x8x128, .f32⟩
  | 104 => ⟨S2048x8x128, .f32⟩
  | 105 => ⟨S2048x8x128, .f32⟩
  | 106 => ⟨S2048x1024, .f32⟩
  | 107 => ⟨S2048x512, .f32⟩
  | 108 => ⟨S2048x8x64, .f32⟩
  | 109 => ⟨S1x8x64, .f32⟩
  | 110 => ⟨S2048x8x64, .f32⟩
  | 111 => ⟨S2048x8x64, .f32⟩
  | 112 => ⟨S_, .f32⟩
  | 113 => ⟨S2048x8, .f32⟩
  | 114 => ⟨S1x8x64, .f32⟩
  | 115 => ⟨S2048x8x64, .f32⟩
  | 116 => ⟨S2048x8x64, .f32⟩
  | 117 => ⟨S_, .f32⟩
  | 118 => ⟨S2048x8, .f32⟩
  | 119 => ⟨S2048x1x8, .f32⟩
  | 120 => ⟨S1x2048x8, .f32⟩
  | 121 => ⟨S2048x2048x8, .f32⟩
  | 122 => ⟨S2048x2048x8, .f32⟩
  | 123 => ⟨S2048x2048x8, .f32⟩
  | 124 => ⟨S_, .f32⟩
  | 125 => ⟨S2048x2048x8, .f32⟩
  | 126 => ⟨S2048x2048x8, .i1⟩
  | 127 => ⟨S_, .f32⟩
  | _ => ⟨S2048x256, .f32⟩

abbrev hbmTy0_1 (i : Nat) : BufTy := match i % 128 with
  | 0 => ⟨S2048x2048x8, .f32⟩
  | 1 => ⟨S2048x2048x8, .f32⟩
  | 2 => ⟨S2048x2048x8, .f32⟩
  | 3 => ⟨S_, .f32⟩
  | 4 => ⟨S2048x2048, .f32⟩
  | 5 => ⟨S2048x2048, .i1⟩
  | 6 => ⟨S2048x2048x1, .i1⟩
  | 7 => ⟨S2048x2048x8, .i1⟩
  | 8 => ⟨S_, .f32⟩
  | 9 => ⟨S2048x2048x8, .f32⟩
  | 10 => ⟨S2048x2048x8, .f32⟩
  | 11 => ⟨S_, .f32⟩
  | 12 => ⟨S2048x8, .f32⟩
  | 13 => ⟨S_, .f32⟩
  | 14 => ⟨S2048x8, .f32⟩
  | 15 => ⟨S2048x8, .f32⟩
  | 16 => ⟨S2048x1x8, .f32⟩
  | 17 => ⟨S2048x2048x8, .f32⟩
  | 18 => ⟨S2048x2048x8, .f32⟩
  | 19 => ⟨S2048x2048x8, .f32⟩
  | 20 => ⟨S_, .f32⟩
  | 21 => ⟨S2048x8, .f32⟩
  | 22 => ⟨S2048x1x8, .f32⟩
  | 23 => ⟨S2048x2048x8, .f32⟩
  | 24 => ⟨S2048x2048x8, .f32⟩
  | 25 => ⟨S8x64x2048, .f32⟩
  | 26 => ⟨S2048x8x64, .f32⟩
  | 27 => ⟨S_, .f32⟩
  | 28 => ⟨S2048x8x64, .f32⟩
  | 29 => ⟨S2048x8x64, .i1⟩
  | 30 => ⟨S2048x8x64, .f32⟩
  | 31 => ⟨S_, .f32⟩
  | 32 => ⟨S2048x8x64, .f32⟩
  | 33 => ⟨S2048x8x64, .f32⟩
  | 34 => ⟨S2048x8x64, .f32⟩
  | 35 => ⟨S2048x8x64, .f32⟩
  | 36 => ⟨S2048x8x64, .f32⟩
  | 37 => ⟨S_, .f32⟩
  | 38 => ⟨S2048x8x64, .f32⟩
  | 39 => ⟨S2048x8x64, .f32⟩
  | 40 => ⟨S2048x8x64, .f32⟩
  | 41 => ⟨S2048x8x64, .f32⟩
  | 42 => ⟨S2048x8x64, .f32⟩
  | 43 => ⟨S_, .f32⟩
  | 44 => ⟨S2048x8x64, .f32⟩
  | 45 => ⟨S2048x8x64, .f32⟩
  | 46 => ⟨S2048x8x64, .f32⟩
  | 47 => ⟨S2048x8x64, .f32⟩
  | 48 => ⟨S2048x8x64, .f32⟩
  | 49 => ⟨S2048x8x64, .f32⟩
  | 50 => ⟨S_, .f32⟩
  | 51 => ⟨S2048x8x64, .f32⟩
  | 52 => ⟨S2048x8x64, .f32⟩
  | 53 => ⟨S2048x8x64, .f32⟩
  | 54 => ⟨S2048x8x64, .f32⟩
  | 55 => ⟨S2048x8x64, .f32⟩
  | 56 => ⟨S2048x8x64, .f32⟩
  | 57 => ⟨S_, .f32⟩
  | 58 => ⟨S2048x8x64, .f32⟩
  | 59 => ⟨S2048x8x64, .f32⟩
  | 60 => ⟨S2048x8x64, .f32⟩
  | 61 => ⟨S2048x8x64, .f32⟩
  | 62 => ⟨S2048x8x64, .f32⟩
  | 63 => ⟨S2048x8x64, .f32⟩
  | 64 => ⟨S2048x8x64, .f32⟩
  | 65 => ⟨S_, .f32⟩
  | 66 => ⟨S2048x8x64, .f32⟩
  | 67 => ⟨S2048x8x64, .f32⟩
  | 68 => ⟨S2048x8x64, .f32⟩
  | 69 => ⟨S_, .f32⟩
  | 70 => ⟨S2048x8x64, .f32⟩
  | 71 => ⟨S2048x8x64, .i1⟩
  | 72 => ⟨S2048x8x64, .f32⟩
  | 73 => ⟨S2048x8x64, .f32⟩
  | 74 => ⟨S2048x8x64, .f32⟩
  | 75 => ⟨S2048x512, .f32⟩
  | 76 => ⟨S1024x512, .f32⟩
  | 77 => ⟨S1024x256, .f32⟩
  | 78 => ⟨S1024x512, .f32⟩
  | 79 => ⟨S1024x256, .f32⟩
  | 80 => ⟨S256x1024, .f32⟩
  | 81 => ⟨S1024x1024, .f32⟩
  | 82 => ⟨S1048576, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_cst_22 : Ref sig .tc := ⟨.hbm, 139, rfl⟩
abbrev main_v106 : Ref sig .tc := ⟨.hbm, 140, rfl⟩
abbrev main_cst_23 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_24 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_25 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_26 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_27 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_28 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_29 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_30 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_31 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_32 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩

abbrev nD : Nat := 1
abbrev τ : Topo := Topo.v7x

variable {F : FTy → Type} [FloatOps F]
-- ==== Proof.Ideal.Cases.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The grid point decides which branches run -/

/-- The first projection runs: the point is the first. -/
abbrev cond1 (i : grid0.Coords) : Prop := (Scalar.cmpi .ne (Scalar.extui (Scalar.cmpi .eq (BitVec.ofNat 32 (i 0).val) 0#32)) 0#32) = 1#1
/-- Rows of the first attention layer are computed. -/
abbrev cond2 (i : grid0.Coords) : Prop := k0_cond2 i = 1#1
/-- The second projection runs. -/
abbrev cond3 (i : grid0.Coords) : Prop := (Scalar.cmpi .ne (Scalar.extui (Scalar.cmpi .eq (BitVec.ofNat 32 (i 0).val) 5#32)) 0#32) = 1#1
/-- Rows of the second attention layer are computed. -/
abbrev cond4 (i : grid0.Coords) : Prop := k0_cond4 i = 1#1
/-- The decoder runs. -/
abbrev cond5 (i : grid0.Coords) : Prop := k0_cond5 i = 1#1

theorem cond1_iff : ∀ t : Fin grid0.N, cond1 (grid0.coords t) ↔ t.val = 0 := by decide +kernel
theorem cond2_iff : ∀ t : Fin grid0.N, cond2 (grid0.coords t) ↔ (1 ≤ t.val ∧ t.val ≤ 4) := by decide +kernel
theorem cond3_iff : ∀ t : Fin grid0.N, cond3 (grid0.coords t) ↔ t.val = 5 := by decide +kernel
theorem cond4_iff : ∀ t : Fin grid0.N, cond4 (grid0.coords t) ↔ 6 ≤ t.val := by decide +kernel
theorem cond5_iff : ∀ t : Fin grid0.N, cond5 (grid0.coords t) ↔ t.val = 9 := by decide +kernel

/-! ## Where the second layer's rows go at the last point -/

theorem at9_off18 : ∀ i : grid0.Coords, cond5 i → k0_off18 i = ![1536, 0] := by decide +kernel
theorem at9_off20 : ∀ i : grid0.Coords, cond5 i → k0_off20 i = ![1536, 64] := by decide +kernel
theorem at9_off22 : ∀ i : grid0.Coords, cond5 i → k0_off22 i = ![1536, 128] := by decide +kernel
theorem at9_off24 : ∀ i : grid0.Coords, cond5 i → k0_off24 i = ![1536, 192] := by decide +kernel
theorem at9_off26 : ∀ i : grid0.Coords, cond5 i → k0_off26 i = ![1536, 256] := by decide +kernel
theorem at9_off28 : ∀ i : grid0.Coords, cond5 i → k0_off28 i = ![1536, 320] := by decide +kernel
theorem at9_off30 : ∀ i : grid0.Coords, cond5 i → k0_off30 i = ![1536, 384] := by decide +kernel
theorem at9_off32 : ∀ i : grid0.Coords, cond5 i → k0_off32 i = ![1536, 448] := by decide +kernel

end Cert.KernelIdeal.Hand

end
-- ==== Proof.Ideal.RunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Ideal.Cases

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

-- the proof term is large, and the end of the definition walks over it once more
set_option maxHeartbeats 1600000 in
/-- The body at the first point: the first projection and its two score vectors, from the features and weights. -/
def runA (h1 : cond1 i) (h2 : ¬cond2 i) (h3 : ¬cond3 i) (h4 : ¬cond4 i) (h5 : ¬cond5 i)
    (x1 : Vec F S2048x256 .f32) (x3 : Vec F S256x1024 .f32) (x4 : Vec F S8x128 .f32) (x5 : Vec F S8x128 .f32) :
    Σ' (L12 : List (View.Piece (Elt F) S2048x1024 .bf16)), Σ' (L13 : List (View.Piece (Elt F) S2048x8 .f32)), { L14 : List (View.Piece (Elt F) S8x2048 .f32) //
      ∀  (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg3 fullShare x3 ∗ owns (c : Thread nD τ) arg4 fullShare x4 ∗ owns (c : Thread nD τ) arg5 fullShare x5 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__mega_kernel_eq_skeleton]; unfold cc0__mega_kernel_skel
    simp only [k0_part1_eq_skeleton, k0_part2_eq_skeleton, k0_part3_eq_skeleton]
    unfold owns
    iintro ⟨⟨%f1, %hf1, H1⟩, ⟨%f3, %hf3, H3⟩, ⟨%f4, %hf4, H4⟩, ⟨%f5, %hf5, H5⟩, ⟨%d12, %f12, -, H12⟩, ⟨%d13, %f13, -, H13⟩, ⟨%d14, %f14, -, H14⟩, Hk⟩
    obtain rfl := harg1.eq_unread hf1; obtain rfl := harg3.eq_unread hf3; obtain rfl := harg4.eq_unread hf4; obtain rfl := harg5.eq_unread hf5
    sl_exec (disch := first | sl_exact h1 | sl_exact h2 | sl_exact h3 | sl_exact h4 | sl_exact h5)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H12]; · iexists _; iexact H12
    isplitl [H13]; · iexists _; iexact H13
    iexists _; iexact H14

end Cert.KernelIdeal.Hand

end
-- ==== Proof.Ideal.RunB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Ideal.Cases

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

-- the proof term is large, and the end of the definition walks over it once more
set_option maxHeartbeats 1600000 in
/-- The body at a point of the first attention layer: eight column blocks of 512 rows of the hidden layer are written, one per head. -/
def runB (h1 : ¬cond1 i) (h2 : cond2 i) (h3 : ¬cond3 i) (h4 : ¬cond4 i) (h5 : ¬cond5 i)
    (x2 : Vec F S512x2048 .f32) (s12 : Vec F S2048x1024 .bf16) (s13 : Vec F S2048x8 .f32) (s14 : Vec F S8x2048 .f32) :
    { L15 : List (View.Piece (Elt F) S2048x1024 .bf16) //
      ∀ (s15 : Vec F S2048x1024 .bf16) (E : Set ℕ) (K : PUnit → sProp 𝕄),
        iprop(owns (c : Thread nD τ) arg2 fullShare x2 ∗ owns (c : Thread nD τ) arg12 fullShare s12 ∗ owns (c : Thread nD τ) arg13 fullShare s13 ∗ owns (c : Thread nD τ) arg14 fullShare s14 ∗ owns (c : Thread nD τ) arg15 fullShare s15
            ∗ (iprop(owns (c : Thread nD τ) arg2 fullShare x2 ∗ owns (c : Thread nD τ) arg12 fullShare s12 ∗ owns (c : Thread nD τ) arg13 fullShare s13 ∗ owns (c : Thread nD τ) arg14 fullShare s14 ∗ (arg15.view.loc (c : Thread nD τ) ↦[arg15.view.set]{fullShare} arg15.view.writes (Elt F) (harg15.unread s15) L15)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun s15 E K => ?run⟩
  case run =>
    simp only [cc0__mega_kernel_eq_skeleton]; unfold cc0__mega_kernel_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %hf2, H2⟩, ⟨%f12, %hf12, H12⟩, ⟨%f13, %hf13, H13⟩, ⟨%f14, %hf14, H14⟩, ⟨%f15, %hf15, H15⟩, Hk⟩
    obtain rfl := harg2.eq_unread hf2; obtain rfl := harg12.eq_unread hf12; obtain rfl := harg13.eq_unread hf13; obtain rfl := harg14.eq_unread hf14; obtain rfl := harg15.eq_unread hf15
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    iexact H15

end Cert.KernelIdeal.Hand

end
-- ==== Proof.Ideal.RunC.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Ideal.Cases

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

-- the proof term is large, and the end of the definition walks over it once more
set_option maxHeartbeats 1600000 in
/-- The body at the sixth point: the second projection and its two score vectors, from the hidden layer. -/
def runC (h1 : ¬cond1 i) (h2 : ¬cond2 i) (h3 : cond3 i) (h4 : ¬cond4 i) (h5 : ¬cond5 i)
    (x6 : Vec F S1024x512 .f32) (x7 : Vec F S8x64 .f32) (x8 : Vec F S8x64 .f32) (s15 : Vec F S2048x1024 .bf16) :
    Σ' (L16 : List (View.Piece (Elt F) S2048x512 .bf16)), Σ' (L17 : List (View.Piece (Elt F) S2048x8 .f32)), { L18 : List (View.Piece (Elt F) S8x2048 .f32) //
      ∀  (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg15 fullShare s15 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg6 fullShare x6 ∗ owns (c : Thread nD τ) arg7 fullShare x7 ∗ owns (c : Thread nD τ) arg8 fullShare x8 ∗ owns (c : Thread nD τ) arg15 fullShare s15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__mega_kernel_eq_skeleton]; unfold cc0__mega_kernel_skel
    simp only [k0_part16_eq_skeleton, k0_part17_eq_skeleton, k0_part18_eq_skeleton]
    unfold owns
    iintro ⟨⟨%f6, %hf6, H6⟩, ⟨%f7, %hf7, H7⟩, ⟨%f8, %hf8, H8⟩, ⟨%f15, %hf15, H15⟩, ⟨%d16, %f16, -, H16⟩, ⟨%d17, %f17, -, H17⟩, ⟨%d18, %f18, -, H18⟩, Hk⟩
    obtain rfl := harg6.eq_unread hf6; obtain rfl := harg7.eq_unread hf7; obtain rfl := harg8.eq_unread hf8; obtain rfl := harg15.eq_unread hf15
    sl_exec (disch := first | sl_exact h1 | sl_exact h2 | sl_exact h3 | sl_exact h4 | sl_exact h5)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H15]
    · iexists _; isplitr; · ipureintro; exact harg15.read_unread _
      iexact H15
    isplitl [H16]; · iexists _; iexact H16
    isplitl [H17]; · iexists _; iexact H17
    iexists _; iexact H18

end Cert.KernelIdeal.Hand

end
-- ==== Proof.Ideal.RunD.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Ideal.Cases

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

-- the proof term is large, and the end of the definition walks over it once more
set_option maxHeartbeats 1600000 in
/-- The body at a point of the second attention layer but the last. -/
def runD (h1 : ¬cond1 i) (h2 : ¬cond2 i) (h3 : ¬cond3 i) (h4 : cond4 i) (h5 : ¬cond5 i)
    (x2 : Vec F S512x2048 .f32) (s16 : Vec F S2048x512 .bf16) (s17 : Vec F S2048x8 .f32) (s18 : Vec F S8x2048 .f32) :
    { L19 : List (View.Piece (Elt F) S2048x512 .bf16) //
      ∀ (s19 : Vec F S2048x512 .bf16) (E : Set ℕ) (K : PUnit → sProp 𝕄),
        iprop(owns (c : Thread nD τ) arg2 fullShare x2 ∗ owns (c : Thread nD τ) arg16 fullShare s16 ∗ owns (c : Thread nD τ) arg17 fullShare s17 ∗ owns (c : Thread nD τ) arg18 fullShare s18 ∗ owns (c : Thread nD τ) arg19 fullShare s19
            ∗ (iprop(owns (c : Thread nD τ) arg2 fullShare x2 ∗ owns (c : Thread nD τ) arg16 fullShare s16 ∗ owns (c : Thread nD τ) arg17 fullShare s17 ∗ owns (c : Thread nD τ) arg18 fullShare s18 ∗ (arg19.view.loc (c : Thread nD τ) ↦[arg19.view.set]{fullShare} arg19.view.writes (Elt F) (harg19.unread s19) L19)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun s19 E K => ?run⟩
  case run =>
    simp only [cc0__mega_kernel_eq_skeleton]; unfold cc0__mega_kernel_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f2, %hf2, H2⟩, ⟨%f16, %hf16, H16⟩, ⟨%f17, %hf17, H17⟩, ⟨%f18, %hf18, H18⟩, ⟨%f19, %hf19, H19⟩, Hk⟩
    obtain rfl := harg2.eq_unread hf2; obtain rfl := harg16.eq_unread hf16; obtain rfl := harg17.eq_unread hf17; obtain rfl := harg18.eq_unread hf18; obtain rfl := harg19.eq_unread hf19
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexact H19

end Cert.KernelIdeal.Hand

end
-- ==== Proof.Ideal.RunE.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Ideal.Cases

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

-- the proof term is large, and the end of the definition walks over it once more
set_option maxHeartbeats 1600000 in
/-- The body at the last point: the last rows of the second attention layer, then the decoder. -/
def runE (h1 : ¬cond1 i) (h2 : ¬cond2 i) (h3 : ¬cond3 i) (h4 : cond4 i) (h5 : cond5 i)
    (x2 : Vec F S512x2048 .f32) (x9 : Vec F S512x256 .f32) (x10 : Vec F S512x256 .f32) (s16 : Vec F S2048x512 .bf16) (s17 : Vec F S2048x8 .f32) (s18 : Vec F S8x2048 .f32) (s19 : Vec F S2048x512 .bf16) :
    Σ' (L11 : List (View.Piece (Elt F) S1024x1024 .f32)), { L19 : List (View.Piece (Elt F) S2048x512 .bf16) //
      ∀ (E : Set ℕ) (K : PUnit → sProp 𝕄),
        iprop(owns (c : Thread nD τ) arg2 fullShare x2 ∗ owns (c : Thread nD τ) arg9 fullShare x9 ∗ owns (c : Thread nD τ) arg10 fullShare x10 ∗ owns (c : Thread nD τ) arg16 fullShare s16 ∗ owns (c : Thread nD τ) arg17 fullShare s17 ∗ owns (c : Thread nD τ) arg18 fullShare s18 ∗ (∃ d, owns (c : Thread nD τ) arg11 fullShare d) ∗ owns (c : Thread nD τ) arg19 fullShare s19
            ∗ (iprop(owns (c : Thread nD τ) arg2 fullShare x2 ∗ owns (c : Thread nD τ) arg9 fullShare x9 ∗ owns (c : Thread nD τ) arg10 fullShare x10 ∗ owns (c : Thread nD τ) arg16 fullShare s16 ∗ owns (c : Thread nD τ) arg17 fullShare s17 ∗ owns (c : Thread nD τ) arg18 fullShare s18 ∗ (∃ f, arg11.view.loc (c : Thread nD τ) ↦[arg11.view.set]{fullShare} arg11.view.writes (Elt F) f L11) ∗ (arg19.view.loc (c : Thread nD τ) ↦[arg19.view.set]{fullShare} arg19.view.writes (Elt F) (harg19.unread s19) L19)) -∗ K ⟨⟩))
          ⊢ wp frame (wpE (defs₀ (F := F)) Variants.none c none) E (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0__mega_kernel_eq_skeleton]; unfold cc0__mega_kernel_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f2, %hf2, H2⟩, ⟨%f9, %hf9, H9⟩, ⟨%f10, %hf10, H10⟩, ⟨%f16, %hf16, H16⟩, ⟨%f17, %hf17, H17⟩, ⟨%f18, %hf18, H18⟩, ⟨%d11, %f11, -, H11⟩, ⟨%f19, %hf19, H19⟩, Hk⟩
    obtain rfl := harg2.eq_unread hf2; obtain rfl := harg9.eq_unread hf9; obtain rfl := harg10.eq_unread hf10; obtain rfl := harg16.eq_unread hf16; obtain rfl := harg17.eq_unread hf17; obtain rfl := harg18.eq_unread hf18; obtain rfl := harg19.eq_unread hf19
    letI : ClosedOff (k0_off18 i) := ⟨![1536, 0], at9_off18 i h5⟩
    letI : ClosedOff (k0_off20 i) := ⟨![1536, 64], at9_off20 i h5⟩
    letI : ClosedOff (k0_off22 i) := ⟨![1536, 128], at9_off22 i h5⟩
    letI : ClosedOff (k0_off24 i) := ⟨![1536, 192], at9_off24 i h5⟩
    letI : ClosedOff (k0_off26 i) := ⟨![1536, 256], at9_off26 i h5⟩
    letI : ClosedOff (k0_off28 i) := ⟨![1536, 320], at9_off28 i h5⟩
    letI : ClosedOff (k0_off30 i) := ⟨![1536, 384], at9_off30 i h5⟩
    letI : ClosedOff (k0_off32 i) := ⟨![1536, 448], at9_off32 i h5⟩
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H9]
    · iexists _; isplitr; · ipureintro; exact harg9.read_unread _
      iexact H9
    isplitl [H10]
    · iexists _; isplitr; · ipureintro; exact harg10.read_unread _
      iexact H10
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H11]; · iexists _; iexact H11
    iexact H19

end Cert.KernelIdeal.Hand

end
-- ==== Proof.Ideal.Buffers.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Frame
public import proofs.«01_k».proof.Proof.Ideal.RunA
public import proofs.«01_k».proof.Proof.Ideal.RunB
public import proofs.«01_k».proof.Proof.Ideal.RunC
public import proofs.«01_k».proof.Proof.Ideal.RunD
public import proofs.«01_k».proof.Proof.Ideal.RunE

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The staging buffers and the scratch -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x1024 .f32 := win0_10.stage (cfg0.slots t 10)
abbrev hs10 (t : Fin cfg0.N) : (ms10 t).IsWhole := hstage0_10 ((cfg0.slots t 10).cast nbuf0_10)

abbrev sc0 : Memref sig .tc .vmem S2048x1024 .bf16 := Memref.whole cc0_scratch0
abbrev sc1 : Memref sig .tc .vmem S2048x8 .f32 := Memref.whole cc0_scratch1
abbrev sc2 : Memref sig .tc .vmem S8x2048 .f32 := Memref.whole cc0_scratch2
abbrev sc3 : Memref sig .tc .vmem S2048x1024 .bf16 := Memref.whole cc0_scratch3
abbrev sc4 : Memref sig .tc .vmem S2048x512 .bf16 := Memref.whole cc0_scratch4
abbrev sc5 : Memref sig .tc .vmem S2048x8 .f32 := Memref.whole cc0_scratch5
abbrev sc6 : Memref sig .tc .vmem S8x2048 .f32 := Memref.whole cc0_scratch6
abbrev sc7 : Memref sig .tc .vmem S2048x512 .bf16 := Memref.whole cc0_scratch7

/-- The scratch and the generator register, at anything: what the region is entered and left with. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-- The output's buffer is written at the last point only, and only there is it sent back. -/
theorem out_idle : ∀ t : Fin cfg0.N, t.val ≠ 0 → t.val ≠ 9 → cfg0.idle 10 (grid0.coords t) = true ∧ (cfg0.win 10).flush t = false := by decide +kernel
theorem out_idle0 : ∀ t : Fin cfg0.N, t.val ≠ 9 → cfg0.idle 10 (grid0.coords t) = true := by decide +kernel
theorem out_noflush : ∀ t : Fin cfg0.N, t.val ≠ 9 → (cfg0.win 10).flush t = false := by decide +kernel
theorem out_live : ∀ t : Fin cfg0.N, t.val = 9 → cfg0.idle 10 (grid0.coords t) = false := by decide +kernel

/-- The row of the body table at a point is the body at that point's buffers. -/
theorem row_eq (t : Fin cfg0.N) :
    defs₀ (F := F) .tc cfg0.body (cfg0.bodyArgs t (cfg0.slots t)) = bodyAt0 t := by
  unfold defs₀; rw [Defs.onTc_tc]

end Cert.KernelIdeal.Hand

end
-- ==== Proof.Ideal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Frame
public import proofs.«01_k».proof.Proof.Ideal.Buffers

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-- A buffer overwritten by any stores holds something. -/
theorem owns_of_writes {s : Shape} {e : EltTy} (c : Dev nD) (a : Memref sig .tc .vmem s e) (f) (L : List (View.Piece (Elt F) s e)) :
    (a.view.loc (c : Thread nD τ) ↦[a.view.set]{fullShare} a.view.writes (Elt F) f L : sProp 𝕄) ⊢ iprop(∃ d, owns (c : Thread nD τ) a fullShare d) := by
  unfold owns; iintro H; iexists _; iexists _; isplitr
  swap; · iexact H
  ipureintro; rfl

/-- The proof data: every input's buffer stays at its block; what the scratch and the output hold is not tracked here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

/-- The one window whose contents are not tracked: the output's. -/
def untracked : Fin cfg0.W → Bool := fun w => w == 10

theorem A_eq (c : Dev nD) (w : Fin cfg0.W) : (dats m 0 c).A w = V m c (Pipeline.arrRef spec0 w) := by dsimp only [dats]

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t)
    ∧ (dats m 0 c).leavesExact 5 t = owns (c : Thread nD τ) (ms5 t) fullShare (iblk m c 5 t)
    ∧ (dats m 0 c).leavesExact 6 t = owns (c : Thread nD τ) (ms6 t) fullShare (iblk m c 6 t)
    ∧ (dats m 0 c).leavesExact 7 t = owns (c : Thread nD τ) (ms7 t) fullShare (iblk m c 7 t)
    ∧ (dats m 0 c).leavesExact 8 t = owns (c : Thread nD τ) (ms8 t) fullShare (iblk m c 8 t)
    ∧ (dats m 0 c).leavesExact 9 t = owns (c : Thread nD τ) (ms9 t) fullShare (iblk m c 9 t) := by
  refine ⟨?_, ?_, ?_, ?_, ?_, ?_, ?_, ?_, ?_, ?_⟩ <;> rfl

/-- What the body is entered with at a point, -/
def bodyPre (c : Dev nD) (t : Fin cfg0.N) : sProp 𝕄 :=
  iprop(Pipeline.ΦA spec0 c ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ X, owns (c : Thread nD τ) (ms10 t) fullShare X))

/-- and left with. -/
def bodyPost (c : Dev nD) (t : Fin cfg0.N) : sProp 𝕄 :=
  iprop(Pipeline.ΦA spec0 c ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ X, owns (c : Thread nD τ) (ms10 t) fullShare X))

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d

set_option maxHeartbeats 8000000 in
/-- The body at any point: the case the point is in runs on the buffers it touches; all others are carried along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨l0, l1, l2, l3, l4, l5, l6, l7, l8, l9⟩ := leaves_in m c t
  simp only [before_0, before_1, before_2, before_3, before_4, before_5, before_6, before_7, before_8, before_9, rest_eq]
  rw [l0, l1, l2, l3, l4, l5, l6, l7, l8, l9]
  rw [show (dats m 0 c).owesAt () t.succ = (dats m 0 c).owesAt () t.castSucc from rfl]
  have hN : t.val < 10 := lt_of_lt_of_eq t.isLt (show cfg0.N = 10 from N_0)
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rcases (show (t.val = 0) ∨ (1 ≤ t.val ∧ t.val ≤ 4) ∨ (t.val = 5) ∨ (6 ≤ t.val ∧ t.val ≤ 8) ∨ (t.val = 9) by omega) with ht | ht | ht | ht | ht
  · iapply ((runA c (grid0.coords t) _ _ _ _ _ _ _ _ _ _ _ _ _ _ _ _ _ _ _ _ _ _ _ _ _ _ _ _ _ _ _ _ _ _ _ _ _ _ ((cond1_iff t).mpr (by omega)) (fun h => absurd ((cond2_iff t).mp h) (by omega)) (fun h => absurd ((cond3_iff t).mp h) (by omega)) (fun h => absurd ((cond4_iff t).mp h) (by omega)) (fun h => absurd ((cond5_iff t).mp h) (by omega)) (iblk m c 0 t) (iblk m c 2 t) (iblk m c 3 t) (iblk m c 4 t)).2.2.2 Set.univ _)
    isplitl [H0]; · iexact H0
    isplitl [H2]; · iexact H2
    isplitl [H3]; · iexact H3
    isplitl [H4]; · iexact H4
    isplitl [S0]; · iexists _; iexact S0
    isplitl [S1]; · iexists _; iexact S1
    isplitl [S2]; · iexists _; iexact S2
    iintro ⟨H0, H2, H3, H4, ⟨%eS0, S0⟩, ⟨%eS1, S1⟩, ⟨%eS2, S2⟩⟩
    isplitl [S0 S1 S2 S3 S4 S5 S6 S7 Hg]
    · isplitl [S0 S1 S2 S3 S4 S5 S6 S7]
      · isplitl [S0]; · iapply (owns_of_writes c sc0 _ _); iexact S0
        isplitl [S1]; · iapply (owns_of_writes c sc1 _ _); iexact S1
        isplitl [S2]; · iapply (owns_of_writes c sc2 _ _); iexact S2
        isplitl [S3]; · iexists _; iexact S3
        isplitl [S4]; · iexists _; iexact S4
        isplitl [S5]; · iexists _; iexact S5
        isplitl [S6]; · iexists _; iexact S6
        iexists _; iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply ((runB c (grid0.coords t) _ _ _ _ _ _ _ _ _ _ _ _ _ _ _ _ _ _ _ _ _ _ _ _ _ _ _ _ _ _ _ _ _ _ _ _ _ _ (fun h => absurd ((cond1_iff t).mp h) (by omega)) ((cond2_iff t).mpr (by omega)) (fun h => absurd ((cond3_iff t).mp h) (by omega)) (fun h => absurd ((cond4_iff t).mp h) (by omega)) (fun h => absurd ((cond5_iff t).mp h) (by omega)) (iblk m c 1 t) _ _ _).2 _ Set.univ _)
    isplitl [H1]; · iexact H1
    isplitl [S0]; · iexact S0
    isplitl [S1]; · iexact S1
    isplitl [S2]; · iexact S2
    isplitl [S3]; · iexact S3
    iintro ⟨H1, S0, S1, S2, S3⟩
    isplitl [S0 S1 S2 S3 S4 S5 S6 S7 Hg]
    · isplitl [S0 S1 S2 S3 S4 S5 S6 S7]
      · isplitl [S0]; · iexists _; iexact S0
        isplitl [S1]; · iexists _; iexact S1
        isplitl [S2]; · iexists _; iexact S2
        isplitl [S3]; · iapply (owns_of_writes c sc3 _ _); iexact S3
        isplitl [S4]; · iexists _; iexact S4
        isplitl [S5]; · iexists _; iexact S5
        isplitl [S6]; · iexists _; iexact S6
        iexists _; iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply ((runC c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) ((cond3_iff t).mpr (by omega)) (fun h => absurd ((cond4_iff t).mp h) (by omega)) (fun h => absurd ((cond5_iff t).mp h) (by omega)) (iblk m c 5 t) (iblk m c 6 t) (iblk m c 7 t) _).2.2.2 Set.univ _)
    isplitl [H5]; · iexact H5
    isplitl [H6]; · iexact H6
    isplitl [H7]; · iexact H7
    isplitl [S3]; · iexact S3
    isplitl [S4]; · iexists _; iexact S4
    isplitl [S5]; · iexists _; iexact S5
    isplitl [S6]; · iexists _; iexact S6
    iintro ⟨H5, H6, H7, S3, ⟨%eS4, S4⟩, ⟨%eS5, S5⟩, ⟨%eS6, S6⟩⟩
    isplitl [S0 S1 S2 S3 S4 S5 S6 S7 Hg]
    · isplitl [S0 S1 S2 S3 S4 S5 S6 S7]
      · isplitl [S0]; · iexists _; iexact S0
        isplitl [S1]; · iexists _; iexact S1
        isplitl [S2]; · iexists _; iexact S2
        isplitl [S3]; · iexists _; iexact S3
        isplitl [S4]; · iapply (owns_of_writes c sc4 _ _); iexact S4
        isplitl [S5]; · iapply (owns_of_writes c sc5 _ _); iexact S5
        isplitl [S6]; · iapply (owns_of_writes c sc6 _ _); iexact S6
        iexists _; iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply ((runD c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) (fun h => absurd ((cond5_iff t).mp h) (by omega)) (iblk m c 1 t) _ _ _).2 _ Set.univ _)
    isplitl [H1]; · iexact H1
    isplitl [S4]; · iexact S4
    isplitl [S5]; · iexact S5
    isplitl [S6]; · iexact S6
    isplitl [S7]; · iexact S7
    iintro ⟨H1, S4, S5, S6, S7⟩
    isplitl [S0 S1 S2 S3 S4 S5 S6 S7 Hg]
    · isplitl [S0 S1 S2 S3 S4 S5 S6 S7]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        iapply (owns_of_writes c sc7 _ _); iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply ((runE c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) ((cond5_iff t).mpr (by omega)) (iblk m c 1 t) (iblk m c 8 t) (iblk m c 9 t) _ _ _ _).2.2 Set.univ _)
    isplitl [H1]; · iexact H1
    isplitl [H8]; · iexact H8
    isplitl [H9]; · iexact H9
    isplitl [S4]; · iexact S4
    isplitl [S5]; · iexact S5
    isplitl [S6]; · iexact S6
    isplitl [H10]; · iexists _; iexact H10
    isplitl [S7]; · iexact S7
    iintro ⟨H1, H8, H9, S4, S5, S6, ⟨%eH10, H10⟩, S7⟩
    isplitl [S0 S1 S2 S3 S4 S5 S6 S7 Hg]
    · isplitl [S0 S1 S2 S3 S4 S5 S6 S7]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        iapply (owns_of_writes c sc7 _ _); iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (owns_of_writes c (ms10 t) _ _); iexact H10

/-- The body's triple in the form the launch asks for. -/
theorem body_obligation (c : Dev nD) : BodyObligation (dats (F := F) m 0 c) (defs₀ (F := F)) Variants.none () Set.univ untracked := fun t => by
  rw [bigSep_W0, bigSep_W0, row_eq]
  exact triple_restated (sound_body m c t) rfl .rfl fun _ => .rfl

end Cert.KernelIdeal.Hand

end
-- ==== Proof.Ideal.Frame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Frame
public import proofs.«01_k».proof.Proof.Ideal.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-- The only buffer that the line after the region writes is the flat result. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  by_contra hne
  exact StableHlo.devRef_ne_of_ne (by simpa using hne) hb

set_option backward.isDefEq.respectTransparency.types false in
/-- The program runs to its end, leaves every argument as it found it, and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_frame_around_T_track_forget cfgs (dats m) (0 : Fin 1) launch0 defs₀ Variants.none untracked {main_v1} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := fun _ => .rfl) (hout := fun _ => .rfl)
    (Q' := _)
    (hQ' := fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      (h.1.arr_in c 8 rfl).trans ((A_eq m c 8).trans (V_main_arg8 m c)),
      (h.1.arr_in c 9 rfl).trans ((A_eq m c 9).trans (V_main_arg9 m c))⟩, h.2⟩)

end Cert.KernelIdeal.Hand

end
-- ==== Proof.Ideal.Math.lean ====
module

public import Idealize.ShloMosaic.Lib.Pointwise

@[expose] public section

noncomputable section

namespace Cert.Gat

open Idealize.ShloMosaic

/-! # One row of one attention head, over the extended reals

The kernel and the reference compute the same row in two ways: the kernel scales its scores by `1 / log 2` and takes powers of two,
and it nests the series of `e ^ x - 1` as a Horner scheme. -/

/-- The slope of the leaky rectifier on the negative side. -/
def slope : EReal := Ideal.ofBits .f32 0x3E4CCCCD#32

/-- The factor that turns a natural exponent into a binary one. -/
def scale : ℝ := (Real.log 2)⁻¹

/-- The greatest of a row of scores. -/
def rowMax (s : Fin 2048 → EReal) : EReal := Finset.univ.fold max ⊥ s

/-- A row of scores weighs a column of features: the scores' powers, divided by their sum. -/
def weigh (pow : EReal → EReal) (s hb : Fin 2048 → EReal) : EReal :=
  ∑ j, Ideal.div (pow (s j - rowMax s)) (∑ k, pow (s k - rowMax s)) * hb j

/-- The score of a pair of nodes as the kernel takes it: the rectifier is a maximum, a missing edge adds minus infinity. -/
def kerScore (f d a : EReal) : EReal := max (f + d) (slope * (f + d)) + (if 0 < a then 0 else ⊥)

/-- The score of a pair of nodes as the reference takes it. -/
def refScore (f d a : EReal) : EReal := if 0 < a then (if 0 ≤ f + d then f + d else slope * (f + d)) else ⊥

/-- The kernel's activation, the series nested. -/
def kerElu (x : EReal) : EReal :=
  if 0 < x then x else
    if ((-(1 / 4) : ℝ) : EReal) < x then
      x * (1 + Ideal.div x (2 : ℝ) * (1 + Ideal.div x (3 : ℝ) * (1 + Ideal.div x (4 : ℝ) * (1 + Ideal.div x (5 : ℝ)
        * (1 + Ideal.div x (6 : ℝ) * (1 + Ideal.div x (7 : ℝ)))))))
    else Ideal.exp x - 1

/-- The reference's activation, the series a sum of its terms. -/
def refElu (x : EReal) : EReal :=
  if 0 < x then x else
    if ((-(1 / 4) : ℝ) : EReal) < x then
      x + Ideal.div (x * x) (2 : ℝ) + Ideal.div (x * x * x) (6 : ℝ) + Ideal.div (x * x * (x * x)) (24 : ℝ)
        + Ideal.div (x * (x * x * (x * x))) (120 : ℝ) + Ideal.div (x * x * (x * x * (x * x))) (720 : ℝ)
        + Ideal.div (x * (x * x) * (x * x * (x * x))) (5040 : ℝ)
    else Ideal.exp x - 1

/-- One entry of a layer's output, as the kernel takes it, -/
def kerRow (f : EReal) (d a hb : Fin 2048 → EReal) : EReal := kerElu (weigh Ideal.exp2 (fun j => kerScore f (d j) (a j)) hb)

/-- and as the reference takes it. -/
def refRow (f : EReal) (d a hb : Fin 2048 → EReal) : EReal := refElu (weigh Ideal.exp (fun j => refScore f (d j) (a j)) hb)

/-! ## The two rows are one -/

theorem slope_eq : slope = ((13421773 / 67108864 : ℝ) : EReal) := by
  unfold slope
  simp [Ideal.ofBits, Ideal.ieee, -EReal.coe_mul]
  norm_num

/-! The float literals that occur, by value. -/

theorem lit_minf : Ideal.ofBits .f32 0xFF800000#32 = (⊥ : EReal) := by simp [Ideal.ofBits, Ideal.ieee]
theorem lit_quarter : Ideal.ofBits .f32 0xBE800000#32 = ((-(1 / 4) : ℝ) : EReal) := by
  simp [Ideal.ofBits, Ideal.ieee, -EReal.coe_mul]; norm_num
theorem lit_2 : Ideal.ofBits .f32 0x40000000#32 = ((2 : ℝ) : EReal) := by simp [Ideal.ofBits, Ideal.ieee, -EReal.coe_mul]; norm_num
theorem lit_3 : Ideal.ofBits .f32 0x40400000#32 = ((3 : ℝ) : EReal) := by simp [Ideal.ofBits, Ideal.ieee, -EReal.coe_mul]; norm_num
theorem lit_4 : Ideal.ofBits .f32 0x40800000#32 = ((4 : ℝ) : EReal) := by simp [Ideal.ofBits, Ideal.ieee, -EReal.coe_mul]; norm_num
theorem lit_5 : Ideal.ofBits .f32 0x40A00000#32 = ((5 : ℝ) : EReal) := by simp [Ideal.ofBits, Ideal.ieee, -EReal.coe_mul]; norm_num
theorem lit_6 : Ideal.ofBits .f32 0x40C00000#32 = ((6 : ℝ) : EReal) := by simp [Ideal.ofBits, Ideal.ieee, -EReal.coe_mul]; norm_num
theorem lit_7 : Ideal.ofBits .f32 0x40E00000#32 = ((7 : ℝ) : EReal) := by simp [Ideal.ofBits, Ideal.ieee, -EReal.coe_mul]; norm_num
theorem lit_24 : Ideal.ofBits .f32 0x41C00000#32 = ((24 : ℝ) : EReal) := by simp [Ideal.ofBits, Ideal.ieee, -EReal.coe_mul]; norm_num
theorem lit_120 : Ideal.ofBits .f32 0x42F00000#32 = ((120 : ℝ) : EReal) := by simp [Ideal.ofBits, Ideal.ieee, -EReal.coe_mul]; norm_num
theorem lit_720 : Ideal.ofBits .f32 0x44340000#32 = ((720 : ℝ) : EReal) := by simp [Ideal.ofBits, Ideal.ieee, -EReal.coe_mul]; norm_num
theorem lit_5040 : Ideal.ofBits .f32 0x459D8000#32 = ((5040 : ℝ) : EReal) := by simp [Ideal.ofBits, Ideal.ieee, -EReal.coe_mul]; norm_num

theorem scale_pos : 0 < scale := inv_pos.mpr (Real.log_pos (by norm_num))

theorem coe_scale_pos : (0 : EReal) < (scale : EReal) := by exact_mod_cast scale_pos

/-- A quotient by a nonzero real of a real is the real quotient. -/
theorem div_coe (x r : ℝ) (hr : r ≠ 0) : Ideal.div (x : EReal) (r : EReal) = ((x / r : ℝ) : EReal) := by
  unfold Ideal.div
  rw [if_neg (by exact_mod_cast hr), ← EReal.coe_inv, ← EReal.coe_mul]
  rfl

theorem elu_eq (x : EReal) : kerElu x = refElu x := by
  unfold kerElu refElu
  split_ifs with h0 h1
  · rfl
  · induction x with
    | bot => exact absurd h1 (by simp)
    | top => exact absurd (EReal.zero_lt_top) h0
    | coe r =>
      simp only [← EReal.coe_one, ← EReal.coe_mul, div_coe _ _ (by norm_num : (2 : ℝ) ≠ 0), div_coe _ _ (by norm_num : (3 : ℝ) ≠ 0),
        div_coe _ _ (by norm_num : (4 : ℝ) ≠ 0), div_coe _ _ (by norm_num : (5 : ℝ) ≠ 0), div_coe _ _ (by norm_num : (6 : ℝ) ≠ 0),
        div_coe _ _ (by norm_num : (7 : ℝ) ≠ 0), div_coe _ _ (by norm_num : (24 : ℝ) ≠ 0), div_coe _ _ (by norm_num : (120 : ℝ) ≠ 0),
        div_coe _ _ (by norm_num : (720 : ℝ) ≠ 0), div_coe _ _ (by norm_num : (5040 : ℝ) ≠ 0), ← EReal.coe_add]
      congr 1
      ring
  · rfl

theorem scale_mul_add (a b : EReal) : (scale : EReal) * (a + b) = scale * a + scale * b :=
  EReal.left_distrib_of_nonneg_of_ne_top coe_scale_pos.le (EReal.coe_ne_top _) a b

theorem scale_mul_sub (a b : EReal) : (scale : EReal) * (a - b) = scale * a - scale * b := by
  rw [sub_eq_add_neg, scale_mul_add, mul_neg, ← sub_eq_add_neg]

theorem scale_mul_max (a b : EReal) : (scale : EReal) * max a b = max (scale * a) (scale * b) :=
  Monotone.map_max (f := fun x : EReal => (scale : EReal) * x) fun _ _ h => mul_le_mul_of_nonneg_left h coe_scale_pos.le

theorem exp2_scale (x : EReal) : Ideal.exp2 (scale * x) = Ideal.exp x := by
  induction x with
  | bot => rw [EReal.coe_mul_bot_of_pos scale_pos]; rfl
  | top => rw [EReal.coe_mul_top_of_pos scale_pos]; rfl
  | coe r =>
    rw [← EReal.coe_mul]
    show ((Real.rpow 2 (scale * r) : ℝ) : EReal) = ((Real.exp r : ℝ) : EReal)
    congr 1
    show (2 : ℝ) ^ (scale * r) = Real.exp r
    rw [Real.rpow_def_of_pos (by norm_num)]
    unfold scale
    congr 1
    have : Real.log 2 ≠ 0 := (Real.log_pos (by norm_num)).ne'
    field_simp

theorem leaky_eq (e : EReal) : max e (slope * e) = if 0 ≤ e then e else slope * e := by
  rw [slope_eq]
  induction e with
  | bot => rw [EReal.coe_mul_bot_of_pos (by norm_num)]; simp
  | top => rw [EReal.coe_mul_top_of_pos (by norm_num)]; simp
  | coe r =>
    rw [← EReal.coe_mul]
    by_cases h : 0 ≤ r
    · rw [if_pos (by exact_mod_cast h), max_eq_left (by exact_mod_cast (by nlinarith))]
    · rw [if_neg (by exact_mod_cast h), max_eq_right (by exact_mod_cast (by nlinarith))]

theorem score_eq (f d a : EReal) : kerScore (scale * f) (scale * d) a = scale * refScore f d a := by
  unfold kerScore refScore
  rw [← scale_mul_add, mul_left_comm, ← scale_mul_max, leaky_eq]
  split_ifs
  all_goals simp only [add_zero, EReal.add_bot, EReal.coe_mul_bot_of_pos scale_pos]

theorem rowMax_scale (s : Fin 2048 → EReal) : rowMax (fun j => scale * s j) = scale * rowMax s := by
  unfold rowMax
  rw [← Finset.fold_hom (op := max) (op' := max) (m := fun x : EReal => (scale : EReal) * x) (fun x y => scale_mul_max x y)]
  rw [EReal.coe_mul_bot_of_pos scale_pos]

theorem weigh_scale (s hb : Fin 2048 → EReal) : weigh Ideal.exp2 (fun j => scale * s j) hb = weigh Ideal.exp s hb := by
  unfold weigh
  simp only [rowMax_scale, ← scale_mul_sub, exp2_scale]

/-- The kernel's row of the scaled scores is the reference's row. -/
theorem row_eq (f : EReal) (d a hb : Fin 2048 → EReal) :
    kerRow (scale * f) (fun j => scale * d j) a hb = refRow f d a hb := by
  unfold kerRow refRow
  simp only [score_eq, weigh_scale, elu_eq]

end Cert.Gat

end
-- ==== Proof.Ideal.Payload.lean ====
module

public import proofs.«01_k».proof.Proof.Gen.KernelIdeal.Skeleton
public import Idealize.ShloMosaic.Lib.Pointwise
public import proofs.«01_k».proof.Proof.Ideal.Math

@[expose] public section

set_option maxRecDepth 16384

noncomputable section

namespace Cert.KernelIdeal.Hand

open Cert.KernelIdeal.Gen
open Idealize.ShloMosaic Idealize.ShloMosaic.TcCoe

/-! # What one head's store holds

The body's text is cut into many small definitions, differently from head to head; each head's chain is the same three steps: the
weights of 512 rows, their product with the head's features, the activation. -/

variable {F : FTy → Type} [FloatOps F] [Named F]

/-- The weights of 512 rows over all nodes: scores, less each row's greatest, to the power of two, over their sum. -/
def weights (mk : FVec F S512x2048 .f32) (fs : FVec F S512x1 .f32) (fd : FVec F S1x2048 .f32) : FVec F S512x2048 .bf16 :=
  let e := addf (broadcastTo S512x2048 fs broadcasts_S512x1_S512x2048) (broadcastTo S512x2048 fd broadcasts_S1x2048_S512x2048)
  let s := addf (maximumf e (mulf (broadcast S512x2048 (Scalar.ofBits .f32 0x3E4CCCCD#32)) e)) mk
  let g := multiReduction .maximumf [1] S512 s 0xFF800000#32 reduces_S512x2048_S512 (.inl rfl) rfl
  let p := exp2 (subf s (broadcastTo S512x2048 (shapeCast S512x1 g shapeCasts_S512_S512x1) broadcasts_S512x1_S512x2048))
  let z := multiReduction .add [1] S512 p 0x00000000#32 reduces_S512x2048_S512 (.inl rfl) rfl
  truncf .bf16 (divf p (broadcastTo S512x2048 (shapeCast S512x1 z shapeCasts_S512_S512x1) broadcasts_S512x1_S512x2048)) bitsLt_bf16_f32

/-- The activation, element by element. -/
def activate {s : Shape} (x : FVec F s .f32) : FVec F s .bf16 :=
  let one : FVec F s .f32 := broadcast s (Scalar.ofBits .f32 0x3F800000#32)
  let q (b : BitVec 32) : FVec F s .f32 := divf x (broadcast s (Scalar.ofBits .f32 b))
  let t := mulf x (addf one (mulf (q 0x40000000#32) (addf one (mulf (q 0x40400000#32) (addf one (mulf (q 0x40800000#32)
    (addf one (mulf (q 0x40A00000#32) (addf one (mulf (q 0x40C00000#32) (addf one (q 0x40E00000#32))))))))))))
  truncf .bf16 (select (cmpf .ogt x (broadcast s (Scalar.ofBits .f32 0x00000000#32))) x
    (select (cmpf .ogt x (broadcast s (Scalar.ofBits .f32 0xBE800000#32))) t (subf (exp x) one))) bitsLt_bf16_f32

/-- What a head of the first layer stores, -/
def head1 (mk : FVec F S512x2048 .f32) (fs : FVec F S512x1 .f32) (fd : FVec F S1x2048 .f32) (hb : FVec F S2048x128 .bf16) :
    FVec F S512x128 .bf16 :=
  shapeCast S512x128 (activate (matmul dot_S512x2048_S2048x128_S512x128_1_0_0_1_n_n none (weights mk fs fd) hb
    (constant S512x128 .f32 0x00000000#32))) shapeCasts_S512x128_S512x128

/-- and a head of the second. -/
def head2 (mk : FVec F S512x2048 .f32) (fs : FVec F S512x1 .f32) (fd : FVec F S1x2048 .f32) (hb : FVec F S2048x64 .bf16) :
    FVec F S512x64 .bf16 :=
  shapeCast S512x64 (activate (matmul dot_S512x2048_S2048x64_S512x64_1_0_0_1_n_n none (weights mk fs fd) hb
    (constant S512x64 .f32 0x00000000#32))) shapeCasts_S512x64_S512x64

section first
variable (X mk : FVec F S512x2048 .f32) (fs : FVec F S512x1 .f32) (fd : FVec F S1x2048 .f32) (hb : FVec F S2048x128 .bf16)

theorem head1_0 : k0_pay42 (k0_pay36 X fs fd hb) (k0_pay37 X fs fd hb) (k0_pay38 X fs fd hb) (k0_pay39 X fs fd hb)
    (k0_pay40 X fs fd hb) k0_pay41 = head1 (k0_pay35 X) fs fd hb := rfl
theorem head1_1 : k0_pay47 (k0_pay44 mk (k0_pay43 fs fd) hb) (k0_pay45 mk (k0_pay43 fs fd) hb) (k0_pay46 mk (k0_pay43 fs fd) hb)
    (FloatOps.ofBits .f32 0x3F800000#32) = head1 mk fs fd hb := rfl
theorem head1_2 : k0_pay52 (k0_pay48 mk fs fd hb) (k0_pay49 mk fs fd hb) (k0_pay50 mk fs fd hb) (k0_pay51 mk fs fd hb)
    (FloatOps.ofBits .f32 0x40800000#32) = head1 mk fs fd hb := rfl
theorem head1_3 : k0_pay58 (k0_pay54 mk (k0_pay53 fs fd) hb) (k0_pay55 mk (k0_pay53 fs fd) hb) (k0_pay56 mk (k0_pay53 fs fd) hb)
    (k0_pay57 mk (k0_pay53 fs fd) hb) (FloatOps.ofBits .f32 0x3F800000#32) = head1 mk fs fd hb := rfl
theorem head1_4 : k0_pay62 (k0_pay59 mk fs fd hb) (k0_pay60 mk fs fd hb) (k0_pay61 mk fs fd hb) = head1 mk fs fd hb := rfl
theorem head1_5 : k0_pay68 (k0_pay63 mk fs fd hb) (k0_pay64 mk fs fd hb) (k0_pay65 mk fs fd hb) (k0_pay66 mk fs fd hb)
    (k0_pay67 mk fs fd hb) (FloatOps.ofBits .f32 0x3F800000#32) = head1 mk fs fd hb := rfl
theorem head1_6 : k0_pay71 (k0_pay69 mk fs fd hb) k0_pay70 = head1 mk fs fd hb := rfl
theorem head1_7 : k0_pay5 (k0_pay72 mk fs fd hb) (k0_pay73 mk fs fd hb) (k0_pay74 mk fs fd hb) (k0_pay75 mk fs fd hb)
    (k0_pay76 mk fs fd hb) (k0_pay77 mk fs fd hb) (FloatOps.ofBits .f32 0x3F800000#32) = head1 mk fs fd hb := rfl
end first

section second
variable (X mk : FVec F S512x2048 .f32) (fs : FVec F S512x1 .f32) (fd : FVec F S1x2048 .f32) (hb : FVec F S2048x64 .bf16)

theorem head2_0 : k0_pay106 (k0_pay101 X fs fd hb) (k0_pay102 X fs fd hb) (k0_pay103 X fs fd hb) (k0_pay104 X fs fd hb)
    (k0_pay105 X fs fd hb) = head2 (k0_pay100 X) fs fd hb := rfl
theorem head2_1 : k0_pay113 (k0_pay109 mk (k0_pay107 fs fd) k0_pay108 hb) (k0_pay110 mk (k0_pay107 fs fd) k0_pay108 hb)
    (k0_pay111 mk (k0_pay107 fs fd) k0_pay108 hb) (k0_pay112 mk (k0_pay107 fs fd) k0_pay108 hb) = head2 mk fs fd hb := rfl
theorem head2_2 : k0_pay118 (k0_pay114 mk fs fd hb) (k0_pay115 mk fs fd hb) (k0_pay116 mk fs fd hb) k0_pay117 = head2 mk fs fd hb := rfl
theorem head2_3 : k0_pay125 (k0_pay120 mk fd (k0_pay119 fs) hb) (k0_pay121 mk fd (k0_pay119 fs) hb) (k0_pay122 mk fd (k0_pay119 fs) hb)
    (k0_pay123 mk fd (k0_pay119 fs) hb) (k0_pay124 mk fd (k0_pay119 fs) hb) = head2 mk fs fd hb := rfl
theorem head2_4 : k0_pay128 (k0_pay126 mk fs fd hb) (k0_pay127 mk fs fd hb) (FloatOps.ofBits .f32 0x40000000#32) = head2 mk fs fd hb := rfl
theorem head2_5 : k0_pay135 (k0_pay129 mk fs fd hb) (k0_pay130 mk fs fd hb) (k0_pay131 mk fs fd hb) (k0_pay132 mk fs fd hb)
    (k0_pay133 mk fs fd hb) (k0_pay134 mk fs fd hb) = head2 mk fs fd hb := rfl
theorem head2_6 : k0_pay137 (k0_pay136 mk fs fd hb) = head2 mk fs fd hb := rfl
theorem head2_7 : k0_pay10 (k0_pay138 mk fs fd hb) (k0_pay139 mk fs fd hb) (k0_pay140 mk fs fd hb) (k0_pay141 mk fs fd hb)
    (k0_pay142 mk fs fd hb) (k0_pay143 mk fs fd hb) (k0_pay144 mk fs fd hb) = head2 mk fs fd hb := rfl
end second

/-- Both layers mask alike. -/
theorem mask_eq (X : FVec F S512x2048 .f32) : k0_pay100 X = k0_pay35 X := rfl

end Cert.KernelIdeal.Hand

end
-- ==== Proof.Ideal.HeadAt.lean ====
module

public import proofs.«01_k».proof.Proof.Ideal.Payload

@[expose] public section

set_option maxRecDepth 16384

noncomputable section

namespace Cert.KernelIdeal.Hand

open Cert.KernelIdeal.Gen
open Idealize.ShloMosaic Idealize.ShloMosaic.TcCoe

/-! # A head's stored block, entry by entry -/

theorem mask_value : Named.named (F := Ideal) (φ := .f32) κ "mask" 0xDA388472#32 = (⊥ : EReal) :=
  IdealRules.named_const.ideal_named_scalar _ _ _ _ rfl

theorem log2e_value : Named.named (F := Ideal) (φ := .f32) κ "log2e" 0x3FB8AA3B#32 = ((Cert.Gat.scale : ℝ) : EReal) :=
  IdealRules.named_const.ideal_named_scalar _ _ _ _ rfl

theorem mask_apply (X : FVec Ideal S512x2048 .f32) (p : Fin 512) (j : Fin 2048) :
    k0_pay35 (F := Ideal) X (ix2 p j) = if 0 < X (ix2 p j) then 0 else (⊥ : EReal) := by
  pointwise [k0_pay35, mask_value]

theorem weights_apply (X : FVec Ideal S512x2048 .f32) (fs : FVec Ideal S512x1 .f32) (fd : FVec Ideal S1x2048 .f32) (p : Fin 512) (j : Fin 2048) :
    weights (k0_pay35 (F := Ideal) X) fs fd (ix2 p j) =
      Ideal.div (Ideal.exp2 (Cert.Gat.kerScore (fs (ix2 p 0)) (fd (ix2 0 j)) (X (ix2 p j))
          - Cert.Gat.rowMax fun k => Cert.Gat.kerScore (fs (ix2 p 0)) (fd (ix2 0 k)) (X (ix2 p k))))
        (∑ l, Ideal.exp2 (Cert.Gat.kerScore (fs (ix2 p 0)) (fd (ix2 0 l)) (X (ix2 p l))
          - Cert.Gat.rowMax fun k => Cert.Gat.kerScore (fs (ix2 p 0)) (fd (ix2 0 k)) (X (ix2 p k)))) := by
  pointwise [weights, mask_apply]
  rw [Cert.Gat.lit_minf]
  rfl

theorem activate_apply {s : Shape} (x : FVec Ideal s .f32) (i : s.Idx) : activate x i = Cert.Gat.kerElu (x i) := by
  pointwise [activate]
  rw [Cert.Gat.lit_quarter, Cert.Gat.lit_2, Cert.Gat.lit_3, Cert.Gat.lit_4, Cert.Gat.lit_5, Cert.Gat.lit_6, Cert.Gat.lit_7]
  rfl

theorem head1_apply (X : FVec Ideal S512x2048 .f32) (fs : FVec Ideal S512x1 .f32) (fd : FVec Ideal S1x2048 .f32)
    (hb : FVec Ideal S2048x128 .bf16) (p : Fin 512) (o : Fin 128) :
    head1 (k0_pay35 (F := Ideal) X) fs fd hb (ix2 p o)
      = Cert.Gat.kerRow (fs (ix2 p 0)) (fun j => fd (ix2 0 j)) (fun j => X (ix2 p j)) (fun j => hb (ix2 j o)) := by
  pointwise [head1, activate_apply, weights_apply]
  rfl

theorem head2_apply (X : FVec Ideal S512x2048 .f32) (fs : FVec Ideal S512x1 .f32) (fd : FVec Ideal S1x2048 .f32)
    (hb : FVec Ideal S2048x64 .bf16) (p : Fin 512) (o : Fin 64) :
    head2 (k0_pay35 (F := Ideal) X) fs fd hb (ix2 p o)
      = Cert.Gat.kerRow (fs (ix2 p 0)) (fun j => fd (ix2 0 j)) (fun j => X (ix2 p j)) (fun j => hb (ix2 j o)) := by
  pointwise [head2, activate_apply, weights_apply]
  rfl

end Cert.KernelIdeal.Hand

end
-- ==== Proof.Ideal.Attn.lean ====
module

public import proofs.«01_k».proof.Proof.Ideal.HeadAt
public import Idealize.ShloMosaic.Lib.Writes
public import Idealize.ShloMosaic.Lib.WholeRead

@[expose] public section

set_option maxRecDepth 16384

noncomputable section

namespace Cert.KernelIdeal.Hand

open Cert.KernelIdeal.Gen
open Idealize.ShloMosaic Idealize.ShloMosaic.TcCoe

/-! # An attention layer as an array

The layer's output at row `r` and column `c` is one row of attention with the head that owns the column. -/

/-- The head that owns a column of a 1024-column array. -/
def head128 (c : Fin 1024) : Fin 8 := ⟨c.val / 128, by omega⟩

/-- The head that owns a column of a 512-column array. -/
def head64 (c : Fin 512) : Fin 8 := ⟨c.val / 64, by omega⟩

/-- The first layer's output from its scores, the adjacency and its features. -/
def attn1 (fs : FVec Ideal S2048x8 .f32) (fd : FVec Ideal S8x2048 .f32) (A : FVec Ideal S2048x2048 .f32) (hb : FVec Ideal S2048x1024 .bf16) :
    FVec Ideal S2048x1024 .bf16 :=
  fun y => Cert.Gat.kerRow (fs (ix2 (y 0) (head128 (y 1)))) (fun j => fd (ix2 (head128 (y 1)) j)) (fun j => A (ix2 (y 0) j)) (fun j => hb (ix2 j (y 1)))

/-- The second layer's. -/
def attn2 (fs : FVec Ideal S2048x8 .f32) (fd : FVec Ideal S8x2048 .f32) (A : FVec Ideal S2048x2048 .f32) (hb : FVec Ideal S2048x512 .bf16) :
    FVec Ideal S2048x512 .bf16 :=
  fun y => Cert.Gat.kerRow (fs (ix2 (y 0) (head64 (y 1)))) (fun j => fd (ix2 (head64 (y 1)) j)) (fun j => A (ix2 (y 0) j)) (fun j => hb (ix2 j (y 1)))

/-- The block holds the 512 adjacency rows from `row` on. -/
def IsRows (A : FVec Ideal S2048x2048 .f32) (row : ℕ) (X : FVec Ideal S512x2048 .f32) : Prop :=
  ∀ (p : Fin 512) (q : Fin 2048) (j : Fin 2048), q.val = row + p.val → X (ix2 p j) = A (ix2 q j)

/-- Where a block of a two-axis array places an entry. -/
theorem unit_emb (m n a b k l : ℕ) (inb : ∀ x, (![a, b] : Fin 2 → ℕ) x + (![k, l] : Fin 2 → ℕ) x ≤ (⟨2, ![m, n]⟩ : Shape).size x)
    (p : Fin k) (q : Fin l) :
    (Rect.unit (s := ⟨2, ![m, n]⟩) ![a, b] ![k, l] inb).emb (ix2 p q)
      = ix2 (⟨a + p, lt_of_lt_of_le (Nat.add_lt_add_left p.isLt a) (inb 0)⟩ : Fin m)
          (⟨b + q, lt_of_lt_of_le (Nat.add_lt_add_left q.isLt b) (inb 1)⟩ : Fin n) := by
  funext x
  refine Fin.ext ((Rect.emb_apply _ _ _).trans ?_)
  rw [Rect.stride_unit, Nat.one_mul]
  fin_cases x <;> rfl

variable {arg2 : Memref sig .tc .vmem S512x2048 .f32} (harg2 : arg2.IsWhole)
  {fsr : Memref sig .tc .vmem S2048x8 .f32} (hfs : fsr.IsWhole)
  {fdr : Memref sig .tc .vmem S8x2048 .f32} (hfd : fdr.IsWhole)

/-- One head's stored block of the first layer is that part of the layer's output. -/
theorem head1_piece {hbr : Memref sig .tc .vmem S2048x1024 .bf16} (hhb : hbr.IsWhole)
    (A : FVec Ideal S2048x2048 .f32) (row h : ℕ) (X : FVec Ideal S512x2048 .f32) (hX : IsRows A row X)
    (fs : FVec Ideal S2048x8 .f32) (fd : FVec Ideal S8x2048 .f32) (hb : FVec Ideal S2048x1024 .bf16)
    (i2 : ∀ a, (![0, 0] : Fin 2 → ℕ) a + (![512, 2048] : Fin 2 → ℕ) a ≤ S512x2048.size a)
    (ifs : ∀ a, (![row, h] : Fin 2 → ℕ) a + (![512, 1] : Fin 2 → ℕ) a ≤ S2048x8.size a)
    (ifd : ∀ a, (![h, 0] : Fin 2 → ℕ) a + (![1, 2048] : Fin 2 → ℕ) a ≤ S8x2048.size a)
    (ihb : ∀ a, (![0, 128 * h] : Fin 2 → ℕ) a + (![2048, 128] : Fin 2 → ℕ) a ≤ S2048x1024.size a)
    (iout : ∀ a, (![row, 128 * h] : Fin 2 → ℕ) a + (![512, 128] : Fin 2 → ℕ) a ≤ S2048x1024.size a)
    (x : (Rect.unit (s := S2048x1024) ![row, 128 * h] ![512, 128] iout).shape.Idx) :
    head1 (k0_pay35 (View.readAt (Elt Ideal) arg2.view (Rect.unit (s := S512x2048) ![0, 0] ![512, 2048] i2).toLoadRect (harg2.unread X)))
        (View.readAt (Elt Ideal) fsr.view (Rect.unit (s := S2048x8) ![row, h] ![512, 1] ifs).toLoadRect (hfs.unread fs))
        (View.readAt (Elt Ideal) fdr.view (Rect.unit (s := S8x2048) ![h, 0] ![1, 2048] ifd).toLoadRect (hfd.unread fd))
        (View.readAt (Elt Ideal) hbr.view (Rect.unit (s := S2048x1024) ![0, 128 * h] ![2048, 128] ihb).toLoadRect (hhb.unread hb)) x
      = attn1 fs fd A hb ((Rect.unit (s := S2048x1024) ![row, 128 * h] ![512, 128] iout).emb x) := by
  have hx : ∃ (p : Fin 512) (o : Fin 128), x = (ix2 p o : S512x128.Idx) := ⟨x 0, x 1, by funext a; fin_cases a <;> rfl⟩
  obtain ⟨p, o, rfl⟩ := hx
  have b0 : row + 512 ≤ 2048 := iout 0
  have b1 : 128 * h + 128 ≤ 1024 := iout 1
  refine (head1_apply _ _ _ _ p o).trans ?_
  simp only [Memref.IsWhole.readAt_unread]
  have hp := p.isLt
  have ho := o.isLt
  have e : (Rect.unit (s := S2048x1024) ![row, 128 * h] ![512, 128] iout).emb (ix2 p o)
      = ix2 (⟨row + p, by omega⟩ : Fin 2048) (⟨128 * h + o, by omega⟩ : Fin 1024) := unit_emb _ _ _ _ _ _ _ _ _
  have eh : head128 (⟨128 * h + o, by omega⟩ : Fin 1024) = ⟨h, by omega⟩ := Fin.ext (by show (128 * h + o.val) / 128 = h; omega)
  rw [e]
  unfold attn1
  refine congr (congr (congr (congrArg _ ?_) ?_) ?_) ?_
  · refine congrArg fs ((unit_emb _ _ _ _ _ _ _ _ _).trans ?_)
    refine congrArg₂ ix2 (Fin.ext rfl) (Fin.ext ?_)
    exact (congrArg Fin.val eh).symm
  · funext j
    refine congrArg fd ((unit_emb _ _ _ _ _ _ _ _ _).trans ?_)
    refine congrArg₂ ix2 (Fin.ext ?_) (Fin.ext ?_)
    · exact (congrArg Fin.val eh).symm
    · exact Nat.zero_add _
  · funext j
    refine (congrArg X ?_).trans (hX p ⟨row + p, by omega⟩ j rfl)
    refine (unit_emb _ _ _ _ _ _ _ _ _).trans ?_
    exact congrArg₂ ix2 (Fin.ext (Nat.zero_add _)) (Fin.ext (Nat.zero_add _))
  · funext j
    refine congrArg hb ((unit_emb _ _ _ _ _ _ _ _ _).trans ?_)
    exact congrArg₂ ix2 (Fin.ext (Nat.zero_add _)) (Fin.ext rfl)

/-- One head's stored block of the second layer is that part of the layer's output. -/
theorem head2_piece {hbr : Memref sig .tc .vmem S2048x512 .bf16} (hhb : hbr.IsWhole)
    (A : FVec Ideal S2048x2048 .f32) (row h : ℕ) (X : FVec Ideal S512x2048 .f32) (hX : IsRows A row X)
    (fs : FVec Ideal S2048x8 .f32) (fd : FVec Ideal S8x2048 .f32) (hb : FVec Ideal S2048x512 .bf16)
    (i2 : ∀ a, (![0, 0] : Fin 2 → ℕ) a + (![512, 2048] : Fin 2 → ℕ) a ≤ S512x2048.size a)
    (ifs : ∀ a, (![row, h] : Fin 2 → ℕ) a + (![512, 1] : Fin 2 → ℕ) a ≤ S2048x8.size a)
    (ifd : ∀ a, (![h, 0] : Fin 2 → ℕ) a + (![1, 2048] : Fin 2 → ℕ) a ≤ S8x2048.size a)
    (ihb : ∀ a, (![0, 64 * h] : Fin 2 → ℕ) a + (![2048, 64] : Fin 2 → ℕ) a ≤ S2048x512.size a)
    (iout : ∀ a, (![row, 64 * h] : Fin 2 → ℕ) a + (![512, 64] : Fin 2 → ℕ) a ≤ S2048x512.size a)
    (x : (Rect.unit (s := S2048x512) ![row, 64 * h] ![512, 64] iout).shape.Idx) :
    head2 (k0_pay35 (View.readAt (Elt Ideal) arg2.view (Rect.unit (s := S512x2048) ![0, 0] ![512, 2048] i2).toLoadRect (harg2.unread X)))
        (View.readAt (Elt Ideal) fsr.view (Rect.unit (s := S2048x8) ![row, h] ![512, 1] ifs).toLoadRect (hfs.unread fs))
        (View.readAt (Elt Ideal) fdr.view (Rect.unit (s := S8x2048) ![h, 0] ![1, 2048] ifd).toLoadRect (hfd.unread fd))
        (View.readAt (Elt Ideal) hbr.view (Rect.unit (s := S2048x512) ![0, 64 * h] ![2048, 64] ihb).toLoadRect (hhb.unread hb)) x
      = attn2 fs fd A hb ((Rect.unit (s := S2048x512) ![row, 64 * h] ![512, 64] iout).emb x) := by
  have hx : ∃ (p : Fin 512) (o : Fin 64), x = (ix2 p o : S512x64.Idx) := ⟨x 0, x 1, by funext a; fin_cases a <;> rfl⟩
  obtain ⟨p, o, rfl⟩ := hx
  have b0 : row + 512 ≤ 2048 := iout 0
  have b1 : 64 * h + 64 ≤ 512 := iout 1
  refine (head2_apply _ _ _ _ p o).trans ?_
  simp only [Memref.IsWhole.readAt_unread]
  have hp := p.isLt
  have ho := o.isLt
  have e : (Rect.unit (s := S2048x512) ![row, 64 * h] ![512, 64] iout).emb (ix2 p o)
      = ix2 (⟨row + p, by omega⟩ : Fin 2048) (⟨64 * h + o, by omega⟩ : Fin 512) := unit_emb _ _ _ _ _ _ _ _ _
  have eh : head64 (⟨64 * h + o, by omega⟩ : Fin 512) = ⟨h, by omega⟩ := Fin.ext (by show (64 * h + o.val) / 64 = h; omega)
  rw [e]
  unfold attn2
  refine congr (congr (congr (congrArg _ ?_) ?_) ?_) ?_
  · refine congrArg fs ((unit_emb _ _ _ _ _ _ _ _ _).trans ?_)
    refine congrArg₂ ix2 (Fin.ext rfl) (Fin.ext ?_)
    exact (congrArg Fin.val eh).symm
  · funext j
    refine congrArg fd ((unit_emb _ _ _ _ _ _ _ _ _).trans ?_)
    refine congrArg₂ ix2 (Fin.ext ?_) (Fin.ext ?_)
    · exact (congrArg Fin.val eh).symm
    · exact Nat.zero_add _
  · funext j
    refine (congrArg X ?_).trans (hX p ⟨row + p, by omega⟩ j rfl)
    refine (unit_emb _ _ _ _ _ _ _ _ _).trans ?_
    exact congrArg₂ ix2 (Fin.ext (Nat.zero_add _)) (Fin.ext (Nat.zero_add _))
  · funext j
    refine congrArg hb ((unit_emb _ _ _ _ _ _ _ _ _).trans ?_)
    exact congrArg₂ ix2 (Fin.ext (Nat.zero_add _)) (Fin.ext rfl)

/-! ## Eight blocks side by side -/

/-- The stores hold the array `G` and fill exactly the 512 rows from `row` on. -/
structure Written {n : ℕ} {e : EltTy} (L : List (View.Piece (Elt Ideal) (⟨2, ![2048, n]⟩ : Shape) e)) (G : (⟨2, ![2048, n]⟩ : Shape).Idx → Elt Ideal e) (row : ℕ) : Prop where
  agree : ∀ p ∈ L, ∀ x, p.2 x = G (p.1.emb x)
  within : ∀ p ∈ L, ∀ y ∈ p.1.set, row ≤ (y 0).val ∧ (y 0).val < row + 512
  cover : ∀ y : (⟨2, ![2048, n]⟩ : Shape).Idx, row ≤ (y 0).val → (y 0).val < row + 512 → ∃ p ∈ L, y ∈ p.1.set

/-- A buffer after such stores: `G` on those rows, what it held elsewhere. -/
theorem Written.read {n : ℕ} {e : EltTy} {L : List (View.Piece (Elt Ideal) (⟨2, ![2048, n]⟩ : Shape) e)} {G : (⟨2, ![2048, n]⟩ : Shape).Idx → Elt Ideal e} {row : ℕ}
    (h : Written L G row) {sp : Space} (v : View sig .tc sp (⟨2, ![2048, n]⟩ : Shape) e) (f : v.ty.Idx → Elt Ideal v.ty.elt) (y : (⟨2, ![2048, n]⟩ : Shape).Idx) :
    v.read (Elt Ideal) (v.writes (Elt Ideal) f L) y = if row ≤ (y 0).val ∧ (y 0).val < row + 512 then G y else v.read (Elt Ideal) f y := by
  split
  · rename_i hy
    exact View.read_writes_apply_of_pieces v f G L h.agree y (h.cover y hy.1 hy.2)
  · rename_i hy
    exact View.read_writes_apply_of_forall_not_mem v f y L fun p hp hm => hy (h.within p hp y hm)

/-- One column block of 512 rows, as a piece. -/
abbrev blockAt (n w row col : ℕ) {e : EltTy} (inb : ∀ x, (![row, col] : Fin 2 → ℕ) x + (![512, w] : Fin 2 → ℕ) x ≤ (⟨2, ![2048, n]⟩ : Shape).size x)
    (v : (⟨2, ![512, w]⟩ : Shape).Idx → Elt Ideal e) : View.Piece (Elt Ideal) (⟨2, ![2048, n]⟩ : Shape) e :=
  ⟨Rect.unit (s := ⟨2, ![2048, n]⟩) ![row, col] ![512, w] inb, v⟩

theorem mem_blockAt (n w row col : ℕ) (inb : ∀ x, (![row, col] : Fin 2 → ℕ) x + (![512, w] : Fin 2 → ℕ) x ≤ (⟨2, ![2048, n]⟩ : Shape).size x)
    (y : (⟨2, ![2048, n]⟩ : Shape).Idx) :
    y ∈ (Rect.unit (s := ⟨2, ![2048, n]⟩) ![row, col] ![512, w] inb).set
      ↔ (row ≤ (y 0).val ∧ (y 0).val < row + 512) ∧ (col ≤ (y 1).val ∧ (y 1).val < col + w) := by
  rw [Rect.mem_set_unit]
  exact Fin.forall_fin_two

/-- Eight blocks of `w` columns side by side fill 512 rows. -/
theorem written_eight (w row : ℕ) {e : EltTy} (G : (⟨2, ![2048, 8 * w]⟩ : Shape).Idx → Elt Ideal e)
    (i0 i1 i2 i3 i4 i5 i6 i7) (v0 v1 v2 v3 v4 v5 v6 v7)
    (h0 : ∀ x, v0 x = G ((Rect.unit (s := ⟨2, ![2048, 8 * w]⟩) ![row, w * 0] ![512, w] i0).emb x))
    (h1 : ∀ x, v1 x = G ((Rect.unit (s := ⟨2, ![2048, 8 * w]⟩) ![row, w * 1] ![512, w] i1).emb x))
    (h2 : ∀ x, v2 x = G ((Rect.unit (s := ⟨2, ![2048, 8 * w]⟩) ![row, w * 2] ![512, w] i2).emb x))
    (h3 : ∀ x, v3 x = G ((Rect.unit (s := ⟨2, ![2048, 8 * w]⟩) ![row, w * 3] ![512, w] i3).emb x))
    (h4 : ∀ x, v4 x = G ((Rect.unit (s := ⟨2, ![2048, 8 * w]⟩) ![row, w * 4] ![512, w] i4).emb x))
    (h5 : ∀ x, v5 x = G ((Rect.unit (s := ⟨2, ![2048, 8 * w]⟩) ![row, w * 5] ![512, w] i5).emb x))
    (h6 : ∀ x, v6 x = G ((Rect.unit (s := ⟨2, ![2048, 8 * w]⟩) ![row, w * 6] ![512, w] i6).emb x))
    (h7 : ∀ x, v7 x = G ((Rect.unit (s := ⟨2, ![2048, 8 * w]⟩) ![row, w * 7] ![512, w] i7).emb x)) :
    Written (n := 8 * w) [blockAt (8 * w) w row (w * 7) i7 v7, blockAt (8 * w) w row (w * 6) i6 v6, blockAt (8 * w) w row (w * 5) i5 v5,
      blockAt (8 * w) w row (w * 4) i4 v4, blockAt (8 * w) w row (w * 3) i3 v3, blockAt (8 * w) w row (w * 2) i2 v2,
      blockAt (8 * w) w row (w * 1) i1 v1, blockAt (8 * w) w row (w * 0) i0 v0] G row where
  agree := by
    simp only [List.forall_mem_cons]
    exact ⟨h7, h6, h5, h4, h3, h2, h1, h0, fun _ h => absurd h (List.not_mem_nil)⟩
  within := by
    simp only [List.forall_mem_cons]
    exact ⟨fun y h => ((mem_blockAt _ _ _ _ _ y).mp h).1, fun y h => ((mem_blockAt _ _ _ _ _ y).mp h).1, fun y h => ((mem_blockAt _ _ _ _ _ y).mp h).1,
      fun y h => ((mem_blockAt _ _ _ _ _ y).mp h).1, fun y h => ((mem_blockAt _ _ _ _ _ y).mp h).1, fun y h => ((mem_blockAt _ _ _ _ _ y).mp h).1,
      fun y h => ((mem_blockAt _ _ _ _ _ y).mp h).1, fun y h => ((mem_blockAt _ _ _ _ _ y).mp h).1, fun _ h => absurd h (List.not_mem_nil)⟩
  cover := by
    intro y ha hb
    have hc : (y 1).val < 8 * w := (y 1).isLt
    simp only [List.exists_mem_cons_iff, mem_blockAt, ha, hb, true_and, and_self]
    omega

end Cert.KernelIdeal.Hand

end
-- ==== Proof.Ideal.AttnAt.lean ====
module

public import proofs.«01_k».proof.Proof.Ideal.RunB
public import proofs.«01_k».proof.Proof.Ideal.RunD
public import proofs.«01_k».proof.Proof.Ideal.RunE
public import proofs.«01_k».proof.Proof.Ideal.Attn

@[expose] public section

set_option maxRecDepth 16384

noncomputable section

namespace Cert.KernelIdeal.Hand

open Cert.KernelIdeal.Gen
open Idealize.ShloMosaic Idealize.ShloMosaic.TcCoe Idealize.ShloMosaic.Tactic

/-! # What a point of an attention layer leaves in the layer's buffer -/

/-- The first row a point of the first layer writes, as the kernel computes it. -/
def row1 (i : grid0.Coords) : ℕ := BitVec.toNat (Scalar.indexCast (Scalar.muli (Scalar.subi (BitVec.ofNat 32 (i 0).val) 1#32) 512#32))

/-- The first row a point of the second layer writes. -/
def row2 (i : grid0.Coords) : ℕ := BitVec.toNat (Scalar.indexCast (Scalar.muli (Scalar.subi (Scalar.subi (BitVec.ofNat 32 (i 0).val) 4#32) 2#32) 512#32))

theorem row1_eq : ∀ t : Fin grid0.N, 1 ≤ t.val → t.val ≤ 4 → row1 (grid0.coords t) = 512 * (t.val - 1) := by decide +kernel
theorem row2_eq : ∀ t : Fin grid0.N, 6 ≤ t.val → row2 (grid0.coords t) = 512 * (t.val - 6) := by decide +kernel

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

/-- A point of the first layer stores 512 rows of the layer's output. -/
theorem runB_written (h1 : ¬cond1 i) (h2 : cond2 i) (h3 : ¬cond3 i) (h4 : ¬cond4 i) (h5 : ¬cond5 i)
    (A : FVec Ideal S2048x2048 .f32) (x2 : FVec Ideal S512x2048 .f32) (s12 : FVec Ideal S2048x1024 .bf16) (s13 : FVec Ideal S2048x8 .f32) (s14 : FVec Ideal S8x2048 .f32)
    (hX : IsRows A (row1 i) x2) :
    Written (n := 1024) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 s12 s13 s14).1
      (attn1 s13 s14 A s12) (row1 i) := by
  simp only [runB]
  sl_unfold_words
  simp only [head1_0, head1_1, head1_2, head1_3, head1_4, head1_5, head1_6, head1_7]
  exact written_eight 128 _ _ _ _ _ _ _ _ _ _ _ _ _ _ _ _ _ _
    (fun x => head1_piece harg2 harg13 harg14 harg12 A _ 0 x2 hX s13 s14 s12 _ _ _ _ _ x)
    (fun x => head1_piece harg2 harg13 harg14 harg12 A _ 1 x2 hX s13 s14 s12 _ _ _ _ _ x)
    (fun x => head1_piece harg2 harg13 harg14 harg12 A _ 2 x2 hX s13 s14 s12 _ _ _ _ _ x)
    (fun x => head1_piece harg2 harg13 harg14 harg12 A _ 3 x2 hX s13 s14 s12 _ _ _ _ _ x)
    (fun x => head1_piece harg2 harg13 harg14 harg12 A _ 4 x2 hX s13 s14 s12 _ _ _ _ _ x)
    (fun x => head1_piece harg2 harg13 harg14 harg12 A _ 5 x2 hX s13 s14 s12 _ _ _ _ _ x)
    (fun x => head1_piece harg2 harg13 harg14 harg12 A _ 6 x2 hX s13 s14 s12 _ _ _ _ _ x)
    (fun x => head1_piece harg2 harg13 harg14 harg12 A _ 7 x2 hX s13 s14 s12 _ _ _ _ _ x)

/-- A point of the second layer stores 512 rows of the layer's output. -/
theorem runD_written (h1 : ¬cond1 i) (h2 : ¬cond2 i) (h3 : ¬cond3 i) (h4 : cond4 i) (h5 : ¬cond5 i)
    (A : FVec Ideal S2048x2048 .f32) (x2 : FVec Ideal S512x2048 .f32) (s16 : FVec Ideal S2048x512 .bf16) (s17 : FVec Ideal S2048x8 .f32) (s18 : FVec Ideal S8x2048 .f32)
    (hX : IsRows A (row2 i) x2) :
    Written (n := 512) (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 s16 s17 s18).1
      (attn2 s17 s18 A s16) (row2 i) := by
  simp only [runD]
  sl_unfold_words
  simp only [head2_0, head2_1, head2_2, head2_3, head2_4, head2_5, head2_6, head2_7, mask_eq]
  exact written_eight 64 _ _ _ _ _ _ _ _ _ _ _ _ _ _ _ _ _ _
    (fun x => head2_piece harg2 harg17 harg18 harg16 A _ 0 x2 hX s17 s18 s16 _ _ _ _ _ x)
    (fun x => head2_piece harg2 harg17 harg18 harg16 A _ 1 x2 hX s17 s18 s16 _ _ _ _ _ x)
    (fun x => head2_piece harg2 harg17 harg18 harg16 A _ 2 x2 hX s17 s18 s16 _ _ _ _ _ x)
    (fun x => head2_piece harg2 harg17 harg18 harg16 A _ 3 x2 hX s17 s18 s16 _ _ _ _ _ x)
    (fun x => head2_piece harg2 harg17 harg18 harg16 A _ 4 x2 hX s17 s18 s16 _ _ _ _ _ x)
    (fun x => head2_piece harg2 harg17 harg18 harg16 A _ 5 x2 hX s17 s18 s16 _ _ _ _ _ x)
    (fun x => head2_piece harg2 harg17 harg18 harg16 A _ 6 x2 hX s17 s18 s16 _ _ _ _ _ x)
    (fun x => head2_piece harg2 harg17 harg18 harg16 A _ 7 x2 hX s17 s18 s16 _ _ _ _ _ x)

/-- So does the last point. -/
theorem runE_written (h1 : ¬cond1 i) (h2 : ¬cond2 i) (h3 : ¬cond3 i) (h4 : cond4 i) (h5 : cond5 i)
    (A : FVec Ideal S2048x2048 .f32) (x2 : FVec Ideal S512x2048 .f32) (x9 : FVec Ideal S512x256 .f32) (x10 : FVec Ideal S512x256 .f32) (s16 : FVec Ideal S2048x512 .bf16) (s17 : FVec Ideal S2048x8 .f32) (s18 : FVec Ideal S8x2048 .f32) (s19 : FVec Ideal S2048x512 .bf16)
    (hX : IsRows A (row2 i) x2) :
    Written (n := 512) (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).2.1
      (attn2 s17 s18 A s16) (row2 i) := by
  simp only [runE]
  sl_unfold_words
  simp only [head2_0, head2_1, head2_2, head2_3, head2_4, head2_5, head2_6, head2_7, mask_eq]
  exact written_eight 64 _ _ _ _ _ _ _ _ _ _ _ _ _ _ _ _ _ _
    (fun x => head2_piece harg2 harg17 harg18 harg16 A _ 0 x2 hX s17 s18 s16 _ _ _ _ _ x)
    (fun x => head2_piece harg2 harg17 harg18 harg16 A _ 1 x2 hX s17 s18 s16 _ _ _ _ _ x)
    (fun x => head2_piece harg2 harg17 harg18 harg16 A _ 2 x2 hX s17 s18 s16 _ _ _ _ _ x)
    (fun x => head2_piece harg2 harg17 harg18 harg16 A _ 3 x2 hX s17 s18 s16 _ _ _ _ _ x)
    (fun x => head2_piece harg2 harg17 harg18 harg16 A _ 4 x2 hX s17 s18 s16 _ _ _ _ _ x)
    (fun x => head2_piece harg2 harg17 harg18 harg16 A _ 5 x2 hX s17 s18 s16 _ _ _ _ _ x)
    (fun x => head2_piece harg2 harg17 harg18 harg16 A _ 6 x2 hX s17 s18 s16 _ _ _ _ _ x)
    (fun x => head2_piece harg2 harg17 harg18 harg16 A _ 7 x2 hX s17 s18 s16 _ _ _ _ _ x)

end Cert.KernelIdeal.Hand

end
-- ==== Proof.Ideal.Proj.lean ====
module

public import proofs.«01_k».proof.Proof.Ideal.Attn

@[expose] public section

set_option maxRecDepth 16384

noncomputable section

namespace Cert.KernelIdeal.Hand

open Cert.KernelIdeal.Gen
open Idealize.ShloMosaic Idealize.ShloMosaic.TcCoe

/-! # The projections and their score vectors as arrays -/

/-- The column of entry `o` of head `h`, of 128 entries each. -/
def col128 (h : Fin 8) (o : Fin 128) : Fin 1024 := ⟨128 * h.val + o.val, by omega⟩

/-- The column of entry `o` of head `h`, of 64 entries each. -/
def col64 (h : Fin 8) (o : Fin 64) : Fin 512 := ⟨64 * h.val + o.val, by omega⟩

/-- The first projection: features times weights. -/
def proj1 (x : FVec Ideal S2048x256 .f32) (W : FVec Ideal S256x1024 .f32) : S2048x1024.Idx → EReal :=
  fun y => ∑ k : Fin 256, x (ix2 (y 0) k) * W (ix2 k (y 1))

/-- The second projection: the hidden layer times weights. -/
def proj2 (x : FVec Ideal S2048x1024 .bf16) (W : FVec Ideal S1024x512 .f32) : S2048x512.Idx → EReal :=
  fun y => ∑ k : Fin 1024, x (ix2 (y 0) k) * W (ix2 k (y 1))

/-- A node's score with a head, scaled: the head's features against the head's vector. -/
def node1 (hb : S2048x1024.Idx → EReal) (a : FVec Ideal S8x128 .f32) (i : Fin 2048) (h : Fin 8) : EReal :=
  ((Cert.Gat.scale : ℝ) : EReal) * ∑ o : Fin 128, hb (ix2 i (col128 h o)) * a (ix2 h o)

/-- The same in the second layer. -/
def node2 (hb : S2048x512.Idx → EReal) (a : FVec Ideal S8x64 .f32) (i : Fin 2048) (h : Fin 8) : EReal :=
  ((Cert.Gat.scale : ℝ) : EReal) * ∑ o : Fin 64, hb (ix2 i (col64 h o)) * a (ix2 h o)

theorem pay12_apply (x : FVec Ideal S2048x256 .f32) (W : FVec Ideal S256x1024 .f32) (p : Fin 2048) (q : Fin 1024) :
    k0_pay12 (F := Ideal) x W (ix2 p q) = proj1 x W (ix2 p q) := by
  pointwise [k0_pay12]
  rfl

theorem pay78_apply (x : FVec Ideal S2048x1024 .bf16) (W : FVec Ideal S1024x512 .f32) (p : Fin 2048) (q : Fin 512) :
    k0_pay78 (F := Ideal) x W (ix2 p q) = proj2 x W (ix2 p q) := by
  pointwise [k0_pay78]
  rfl

/-- A weighted column sum is a head's score once its columns are the head's. -/
theorem node1_of (hb : S2048x1024.Idx → EReal) (a : FVec Ideal S8x128 .f32) (p : Fin 2048) (h g : Fin 8) (q : Fin 128 → Fin 1024) (hg : g.val = h.val) (hq : ∀ o, (q o).val = 128 * h.val + o.val) :
    ((Cert.Gat.scale : ℝ) : EReal) * (∑ o, hb (ix2 p (q o)) * a (ix2 g o)) = node1 hb a p h := by
  obtain rfl : g = h := Fin.ext hg
  rw [show q = col128 g from funext fun o => Fin.ext (hq o)]
  rfl

/-- The eight columns of layer 1's source scores. -/
theorem cols1 (x : FVec Ideal S2048x256 .f32) (W : FVec Ideal S256x1024 .f32) (a : FVec Ideal S8x128 .f32) (r : Fin 8 → FVec Ideal S1x128 .f32)
    (hr : ∀ h o, r h (ix2 0 o) = a (ix2 h o)) (p : Fin 2048) :
    k0_pay15 (F := Ideal) x W (r 0) (ix2 p 0) = node1 (k0_pay12 (F := Ideal) x W) a p 0
    ∧ k0_pay18 (F := Ideal) x W (r 1) (ix2 p 0) = node1 (k0_pay12 (F := Ideal) x W) a p 1
    ∧ k0_pay21 (F := Ideal) (k0_pay12 x W) (r 2) (ix2 p 0) = node1 (k0_pay12 (F := Ideal) x W) a p 2
    ∧ k0_pay24 (F := Ideal) (k0_pay12 x W) (r 3) (ix2 p 0) = node1 (k0_pay12 (F := Ideal) x W) a p 3
    ∧ k0_pay28 (F := Ideal) (k0_pay12 x W) (r 4) (ix2 p 0) = node1 (k0_pay12 (F := Ideal) x W) a p 4
    ∧ k0_pay31 (F := Ideal) (k0_pay12 x W) (r 5) (ix2 p 0) = node1 (k0_pay12 (F := Ideal) x W) a p 5
    ∧ k0_pay1 (F := Ideal) (k0_pay34 (k0_pay12 x W) (r 6)) (ix2 p 0) = node1 (k0_pay12 (F := Ideal) x W) a p 6
    ∧ k0_pay3 (F := Ideal) (k0_pay12 x W) (r 7) (ix2 p 0) = node1 (k0_pay12 (F := Ideal) x W) a p 7 := by
  refine ⟨?_, ?_, ?_, ?_, ?_, ?_, ?_, ?_⟩ <;> pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, log2e_value, hr] <;>
    exact node1_of _ _ _ _ _ _ rfl fun o => by simp <;> omega

/-- Layer 1's target scores: the same columns side by side, turned, then scaled. -/
theorem turned1 (x : FVec Ideal S2048x256 .f32) (W : FVec Ideal S256x1024 .f32) (a : FVec Ideal S8x128 .f32) (r : Fin 8 → FVec Ideal S1x128 .f32)
    (hr : ∀ h o, r h (ix2 0 o) = a (ix2 h o)) (h : Fin 8) (p : Fin 2048) :
    k0_pay4 (F := Ideal) (k0_pay12 x W) (k0_pay16 x W (r 0)) (k0_pay19 (k0_pay17 x W) (r 1)) (k0_pay22 (k0_pay12 x W) (r 2)) (k0_pay26 (k0_pay25 (k0_pay12 x W) (r 3))) (k0_pay29 (k0_pay12 x W) (r 4)) (k0_pay32 (k0_pay12 x W) (r 5)) (k0_pay33 (k0_pay12 x W)) (r 6) (r 7) (ix2 h p) = node1 (k0_pay12 (F := Ideal) x W) a p h := by
  pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, log2e_value, hr]
  split_ifs <;> exact node1_of _ _ _ _ _ _ (by simp <;> omega) fun o => by simp <;> omega

/-- A weighted column sum is a head's score once its columns are the head's. -/
theorem node2_of (hb : S2048x512.Idx → EReal) (a : FVec Ideal S8x64 .f32) (p : Fin 2048) (h g : Fin 8) (q : Fin 64 → Fin 512) (hg : g.val = h.val) (hq : ∀ o, (q o).val = 64 * h.val + o.val) :
    ((Cert.Gat.scale : ℝ) : EReal) * (∑ o, hb (ix2 p (q o)) * a (ix2 g o)) = node2 hb a p h := by
  obtain rfl : g = h := Fin.ext hg
  rw [show q = col64 g from funext fun o => Fin.ext (hq o)]
  rfl

/-- The eight columns of layer 2's source scores. -/
theorem cols2 (x : FVec Ideal S2048x1024 .bf16) (W : FVec Ideal S1024x512 .f32) (a : FVec Ideal S8x64 .f32) (r : Fin 8 → FVec Ideal S1x64 .f32)
    (hr : ∀ h o, r h (ix2 0 o) = a (ix2 h o)) (p : Fin 2048) :
    k0_pay81 (F := Ideal) x W (r 0) (ix2 p 0) = node2 (k0_pay78 (F := Ideal) x W) a p 0
    ∧ k0_pay84 (F := Ideal) x W (r 1) (ix2 p 0) = node2 (k0_pay78 (F := Ideal) x W) a p 1
    ∧ k0_pay87 (F := Ideal) (k0_pay78 x W) (r 2) (ix2 p 0) = node2 (k0_pay78 (F := Ideal) x W) a p 2
    ∧ k0_pay90 (F := Ideal) (k0_pay78 x W) (r 3) (ix2 p 0) = node2 (k0_pay78 (F := Ideal) x W) a p 3
    ∧ k0_pay93 (F := Ideal) (k0_pay78 x W) (r 4) (ix2 p 0) = node2 (k0_pay78 (F := Ideal) x W) a p 4
    ∧ k0_pay96 (F := Ideal) (k0_pay78 x W) (r 5) (ix2 p 0) = node2 (k0_pay78 (F := Ideal) x W) a p 5
    ∧ k0_pay6 (F := Ideal) (k0_pay99 (k0_pay78 x W) (r 6)) (ix2 p 0) = node2 (k0_pay78 (F := Ideal) x W) a p 6
    ∧ k0_pay8 (F := Ideal) (k0_pay78 x W) (r 7) (ix2 p 0) = node2 (k0_pay78 (F := Ideal) x W) a p 7 := by
  refine ⟨?_, ?_, ?_, ?_, ?_, ?_, ?_, ?_⟩ <;> pointwise [k0_pay6, k0_pay7, k0_pay8, k0_pay9, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, log2e_value, hr] <;>
    exact node2_of _ _ _ _ _ _ rfl fun o => by simp <;> omega

/-- Layer 2's target scores: the same columns side by side, turned, then scaled. -/
theorem turned2 (x : FVec Ideal S2048x1024 .bf16) (W : FVec Ideal S1024x512 .f32) (a : FVec Ideal S8x64 .f32) (r : Fin 8 → FVec Ideal S1x64 .f32)
    (hr : ∀ h o, r h (ix2 0 o) = a (ix2 h o)) (h : Fin 8) (p : Fin 2048) :
    k0_pay9 (F := Ideal) (k0_pay78 x W) (k0_pay82 x W (r 0)) (k0_pay85 (k0_pay83 x W) (r 1)) (k0_pay88 (k0_pay78 x W) (r 2)) (k0_pay91 (k0_pay78 x W) (r 3)) (k0_pay94 (k0_pay78 x W) (r 4)) (k0_pay97 (k0_pay78 x W) (r 5)) (k0_pay98 (k0_pay78 x W)) (r 6) (r 7) (ix2 h p) = node2 (k0_pay78 (F := Ideal) x W) a p h := by
  pointwise [k0_pay6, k0_pay7, k0_pay8, k0_pay9, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, log2e_value, hr]
  split_ifs <;> exact node2_of _ _ _ _ _ _ (by simp <;> omega) fun o => by simp <;> omega

end Cert.KernelIdeal.Hand

end
-- ==== Proof.Ideal.ProjAt.lean ====
module

public import proofs.«01_k».proof.Proof.Ideal.RunA
public import proofs.«01_k».proof.Proof.Ideal.RunC
public import proofs.«01_k».proof.Proof.Ideal.Proj

@[expose] public section

set_option maxRecDepth 16384

noncomputable section

namespace Cert.KernelIdeal.Hand

open Cert.KernelIdeal.Gen
open Idealize.ShloMosaic Idealize.ShloMosaic.TcCoe Idealize.ShloMosaic.Tactic

/-! # What a projection point leaves in its three buffers -/

/-- A load of a whole array reads the array. -/
theorem readAt_all {m n : ℕ} {e : EltTy} {a : Memref sig .tc .vmem (⟨2, ![m, n]⟩ : Shape) e} (ha : a.IsWhole)
    (inb : ∀ x, (![0, 0] : Fin 2 → ℕ) x + (![m, n] : Fin 2 → ℕ) x ≤ (⟨2, ![m, n]⟩ : Shape).size x) (X : (⟨2, ![m, n]⟩ : Shape).Idx → Elt Ideal e) :
    View.readAt (Elt Ideal) a.view (Rect.unit (s := ⟨2, ![m, n]⟩) ![0, 0] ![m, n] inb).toLoadRect (ha.unread X) = X := by
  funext y
  have hy : ∃ (p : Fin m) (q : Fin n), y = (ix2 p q : (⟨2, ![m, n]⟩ : Shape).Idx) := ⟨y 0, y 1, by funext a; fin_cases a <;> rfl⟩
  obtain ⟨p, q, rfl⟩ := hy
  refine (ha.readAt_unread X _ _).trans (congrArg X ((unit_emb _ _ _ _ _ _ _ _ _).trans ?_))
  exact congrArg₂ ix2 (Fin.ext (Nat.zero_add _)) (Fin.ext (Nat.zero_add _))

/-- A load of one row reads that row. -/
theorem readAt_row {m n : ℕ} {e : EltTy} {a : Memref sig .tc .vmem (⟨2, ![m, n]⟩ : Shape) e} (ha : a.IsWhole) (h : ℕ) (hh : h < m)
    (inb : ∀ x, (![h, 0] : Fin 2 → ℕ) x + (![1, n] : Fin 2 → ℕ) x ≤ (⟨2, ![m, n]⟩ : Shape).size x) (X : (⟨2, ![m, n]⟩ : Shape).Idx → Elt Ideal e) (o : Fin n) :
    View.readAt (Elt Ideal) a.view (Rect.unit (s := ⟨2, ![m, n]⟩) ![h, 0] ![1, n] inb).toLoadRect (ha.unread X) (ix2 (0 : Fin 1) o) = X (ix2 (⟨h, hh⟩ : Fin m) o) := by
  refine (ha.readAt_unread X _ _).trans (congrArg X ((unit_emb _ _ _ _ _ _ _ _ _).trans ?_))
  exact congrArg₂ ix2 (Fin.ext rfl) (Fin.ext (Nat.zero_add _))

/-- A buffer stored whole holds what was stored. -/
theorem read_stored {m n : ℕ} {e : EltTy} {sp : Space} (v : View sig .tc sp (⟨2, ![m, n]⟩ : Shape) e) (f : v.ty.Idx → Elt Ideal v.ty.elt)
    (inb : ∀ x, (![0, 0] : Fin 2 → ℕ) x + (![m, n] : Fin 2 → ℕ) x ≤ (⟨2, ![m, n]⟩ : Shape).size x) (w G : (⟨2, ![m, n]⟩ : Shape).Idx → Elt Ideal e)
    (h : ∀ p q, w (ix2 p q) = G (ix2 p q)) :
    v.read (Elt Ideal) (v.writes (Elt Ideal) f [⟨Rect.unit (s := ⟨2, ![m, n]⟩) ![0, 0] ![m, n] inb, w⟩]) = G := by
  funext y
  refine View.read_writes_apply_of_pieces v f G _ ?_ y ⟨_, List.mem_singleton_self _, ?_⟩
  · intro p hp x
    obtain rfl := List.mem_singleton.mp hp
    have hx : ∃ (p : Fin m) (q : Fin n), x = (ix2 p q : (⟨2, ![m, n]⟩ : Shape).Idx) := ⟨x 0, x 1, by funext a; fin_cases a <;> rfl⟩
    obtain ⟨p, q, rfl⟩ := hx
    have e : (Rect.unit (s := ⟨2, ![m, n]⟩) ![0, 0] ![m, n] inb).emb (ix2 p q) = ix2 p q :=
      (unit_emb m n 0 0 m n inb p q).trans (congrArg₂ ix2 (Fin.ext (Nat.zero_add _)) (Fin.ext (Nat.zero_add _)))
    exact (h p q).trans (congrArg G e.symm)
  · rw [Rect.mem_set_unit]
    have h0 : (y 0).val < m := (y 0).isLt
    have h1 : (y 1).val < n := (y 1).isLt
    exact Fin.forall_fin_two.mpr ⟨⟨Nat.zero_le _, by simpa using h0⟩, ⟨Nat.zero_le _, by simpa using h1⟩⟩

/-- Eight columns stored one by one. -/
theorem read_columns {sp : Space} (v : View sig .tc sp S2048x8 .f32) (f : v.ty.Idx → Elt Ideal v.ty.elt) (G : Fin 2048 → Fin 8 → EReal)
    (i0 i1 i2 i3 i4 i5 i6 i7) (w0 w1 w2 w3 w4 w5 w6 w7 : S2048x1.Idx → EReal)
    (h : ∀ p, w0 (ix2 p 0) = G p 0 ∧ w1 (ix2 p 0) = G p 1 ∧ w2 (ix2 p 0) = G p 2 ∧ w3 (ix2 p 0) = G p 3 ∧ w4 (ix2 p 0) = G p 4
      ∧ w5 (ix2 p 0) = G p 5 ∧ w6 (ix2 p 0) = G p 6 ∧ w7 (ix2 p 0) = G p 7) :
    v.read (Elt Ideal) (v.writes (Elt Ideal) f
      [⟨Rect.unit (s := S2048x8) ![0, 7] ![2048, 1] i7, w7⟩, ⟨Rect.unit (s := S2048x8) ![0, 6] ![2048, 1] i6, w6⟩,
       ⟨Rect.unit (s := S2048x8) ![0, 5] ![2048, 1] i5, w5⟩, ⟨Rect.unit (s := S2048x8) ![0, 4] ![2048, 1] i4, w4⟩,
       ⟨Rect.unit (s := S2048x8) ![0, 3] ![2048, 1] i3, w3⟩, ⟨Rect.unit (s := S2048x8) ![0, 2] ![2048, 1] i2, w2⟩,
       ⟨Rect.unit (s := S2048x8) ![0, 1] ![2048, 1] i1, w1⟩, ⟨Rect.unit (s := S2048x8) ![0, 0] ![2048, 1] i0, w0⟩])
      = fun y => G (y 0) (y 1) := by
  have key : ∀ (k : ℕ) (hk : k < 8) (w : S2048x1.Idx → EReal) (hw : ∀ p, w (ix2 p 0) = G p ⟨k, hk⟩)
      (inb : ∀ x, (![0, k] : Fin 2 → ℕ) x + (![2048, 1] : Fin 2 → ℕ) x ≤ S2048x8.size x) (x : (Rect.unit (s := S2048x8) ![0, k] ![2048, 1] inb).shape.Idx),
      w x = (fun y : S2048x8.Idx => G (y 0) (y 1)) ((Rect.unit (s := S2048x8) ![0, k] ![2048, 1] inb).emb x) := by
    intro k hk w hw inb x
    have hx : ∃ (p : Fin 2048), x = (ix2 p 0 : S2048x1.Idx) := ⟨x 0, by funext a; fin_cases a; exact rfl; exact Subsingleton.elim (α := Fin 1) _ _⟩
    obtain ⟨p, rfl⟩ := hx
    refine (hw p).trans ?_
    have e := unit_emb 2048 8 0 k 2048 1 inb p 0
    dsimp only
    rw [show (Rect.unit (s := S2048x8) ![0, k] ![2048, 1] inb).emb (ix2 p 0) = _ from e]
    exact congrArg₂ G (Fin.ext (Nat.zero_add _).symm) (Fin.ext rfl)
  funext y
  refine View.read_writes_apply_of_pieces v f (fun y : S2048x8.Idx => G (y 0) (y 1)) _ ?_ y ?_
  · simp only [List.forall_mem_cons]
    exact ⟨key 7 (by omega) w7 (fun p => (h p).2.2.2.2.2.2.2) i7, key 6 (by omega) w6 (fun p => (h p).2.2.2.2.2.2.1) i6,
      key 5 (by omega) w5 (fun p => (h p).2.2.2.2.2.1) i5, key 4 (by omega) w4 (fun p => (h p).2.2.2.2.1) i4,
      key 3 (by omega) w3 (fun p => (h p).2.2.2.1) i3, key 2 (by omega) w2 (fun p => (h p).2.2.1) i2,
      key 1 (by omega) w1 (fun p => (h p).2.1) i1, key 0 (by omega) w0 (fun p => (h p).1) i0, fun _ h => absurd h List.not_mem_nil⟩
  · have h0 : (y 0).val < 2048 := (y 0).isLt
    have h1 : (y 1).val < 8 := (y 1).isLt
    have e : ∀ k inb, y ∈ (Rect.unit (s := S2048x8) ![0, k] ![2048, 1] inb).set ↔ (y 1).val = k := by
      intro k inb
      rw [Rect.mem_set_unit]
      refine Fin.forall_fin_two.trans ?_
      show (0 ≤ (y 0).val ∧ (y 0).val < 0 + 2048) ∧ (k ≤ (y 1).val ∧ (y 1).val < k + 1) ↔ _
      omega
    simp only [List.exists_mem_cons_iff, e]
    omega

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

theorem proj1_pay (x : FVec Ideal S2048x256 .f32) (W : FVec Ideal S256x1024 .f32) : k0_pay12 (F := Ideal) x W = proj1 x W := by
  funext y
  idx_vars y
  exact pay12_apply x W _ _

theorem proj2_pay (x : FVec Ideal S2048x1024 .bf16) (W : FVec Ideal S1024x512 .f32) : k0_pay78 (F := Ideal) x W = proj2 x W := by
  funext y
  idx_vars y
  exact pay78_apply x W _ _

theorem row_inb1 (h : Fin 8) : ∀ x, (![h.val, 0] : Fin 2 → ℕ) x + (![1, 128] : Fin 2 → ℕ) x ≤ S8x128.size x :=
  Fin.forall_fin_two.mpr ⟨h.isLt, le_refl 128⟩

theorem row_inb2 (h : Fin 8) : ∀ x, (![h.val, 0] : Fin 2 → ℕ) x + (![1, 64] : Fin 2 → ℕ) x ≤ S8x64.size x :=
  Fin.forall_fin_two.mpr ⟨h.isLt, le_refl 64⟩

/-- Layer 1's features. -/
theorem runA_feat (h1 : cond1 i) (h2 : ¬cond2 i) (h3 : ¬cond3 i) (h4 : ¬cond4 i) (h5 : ¬cond5 i) (x1 : FVec Ideal S2048x256 .f32) (x3 : FVec Ideal S256x1024 .f32) (x4 : FVec Ideal S8x128 .f32) (x5 : FVec Ideal S8x128 .f32) (f) :
    arg12.view.read (Elt Ideal) (arg12.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x1 x3 x4 x5).1) = proj1 x1 x3 := by
  simp only [runA]
  sl_unfold_words
  refine read_stored _ _ _ _ _ fun p q => ?_
  simp only [readAt_all]
  pointwise [k0_pay13]
  exact pay12_apply _ _ _ _

/-- Layer 1's source scores. -/
theorem runA_src (h1 : cond1 i) (h2 : ¬cond2 i) (h3 : ¬cond3 i) (h4 : ¬cond4 i) (h5 : ¬cond5 i) (x1 : FVec Ideal S2048x256 .f32) (x3 : FVec Ideal S256x1024 .f32) (x4 : FVec Ideal S8x128 .f32) (x5 : FVec Ideal S8x128 .f32) (f) :
    arg13.view.read (Elt Ideal) (arg13.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x1 x3 x4 x5).2.1) = fun y => node1 (proj1 x1 x3) x4 (y 0) (y 1) := by
  simp only [runA]
  sl_unfold_words
  refine read_columns _ _ _ _ _ _ _ _ _ _ _ _ _ _ _ _ _ _ _ fun p => ?_
  rw [← proj1_pay]
  simp only [readAt_all]
  exact cols1 _ _ _ (fun h => View.readAt (Elt Ideal) arg4.view (Rect.unit (s := S8x128) ![h.val, 0] ![1, 128] (row_inb1 h)).toLoadRect (harg4.unread x4))
    (fun h o => readAt_row harg4 h.val h.isLt _ _ o) p

/-- Layer 1's target scores. -/
theorem runA_tgt (h1 : cond1 i) (h2 : ¬cond2 i) (h3 : ¬cond3 i) (h4 : ¬cond4 i) (h5 : ¬cond5 i) (x1 : FVec Ideal S2048x256 .f32) (x3 : FVec Ideal S256x1024 .f32) (x4 : FVec Ideal S8x128 .f32) (x5 : FVec Ideal S8x128 .f32) (f) :
    arg14.view.read (Elt Ideal) (arg14.view.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x1 x3 x4 x5).2.2.1) = fun y => node1 (proj1 x1 x3) x5 (y 1) (y 0) := by
  simp only [runA]
  sl_unfold_words
  refine read_stored _ _ _ _ _ fun h p => ?_
  rw [← proj1_pay]
  simp only [readAt_all]
  exact turned1 _ _ _ (fun h => View.readAt (Elt Ideal) arg5.view (Rect.unit (s := S8x128) ![h.val, 0] ![1, 128] (row_inb1 h)).toLoadRect (harg5.unread x5))
    (fun h o => readAt_row harg5 h.val h.isLt _ _ o) h p

/-- Layer 2's features. -/
theorem runC_feat (h1 : ¬cond1 i) (h2 : ¬cond2 i) (h3 : cond3 i) (h4 : ¬cond4 i) (h5 : ¬cond5 i) (x6 : FVec Ideal S1024x512 .f32) (x7 : FVec Ideal S8x64 .f32) (x8 : FVec Ideal S8x64 .f32) (s15 : FVec Ideal S2048x1024 .bf16) (f) :
    arg16.view.read (Elt Ideal) (arg16.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x6 x7 x8 s15).1) = proj2 s15 x6 := by
  simp only [runC]
  sl_unfold_words
  refine read_stored _ _ _ _ _ fun p q => ?_
  simp only [readAt_all]
  pointwise [k0_pay79]
  exact pay78_apply _ _ _ _

/-- Layer 2's source scores. -/
theorem runC_src (h1 : ¬cond1 i) (h2 : ¬cond2 i) (h3 : cond3 i) (h4 : ¬cond4 i) (h5 : ¬cond5 i) (x6 : FVec Ideal S1024x512 .f32) (x7 : FVec Ideal S8x64 .f32) (x8 : FVec Ideal S8x64 .f32) (s15 : FVec Ideal S2048x1024 .bf16) (f) :
    arg17.view.read (Elt Ideal) (arg17.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x6 x7 x8 s15).2.1) = fun y => node2 (proj2 s15 x6) x7 (y 0) (y 1) := by
  simp only [runC]
  sl_unfold_words
  refine read_columns _ _ _ _ _ _ _ _ _ _ _ _ _ _ _ _ _ _ _ fun p => ?_
  rw [← proj2_pay]
  simp only [readAt_all]
  exact cols2 _ _ _ (fun h => View.readAt (Elt Ideal) arg7.view (Rect.unit (s := S8x64) ![h.val, 0] ![1, 64] (row_inb2 h)).toLoadRect (harg7.unread x7))
    (fun h o => readAt_row harg7 h.val h.isLt _ _ o) p

/-- Layer 2's target scores. -/
theorem runC_tgt (h1 : ¬cond1 i) (h2 : ¬cond2 i) (h3 : cond3 i) (h4 : ¬cond4 i) (h5 : ¬cond5 i) (x6 : FVec Ideal S1024x512 .f32) (x7 : FVec Ideal S8x64 .f32) (x8 : FVec Ideal S8x64 .f32) (s15 : FVec Ideal S2048x1024 .bf16) (f) :
    arg18.view.read (Elt Ideal) (arg18.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x6 x7 x8 s15).2.2.1) = fun y => node2 (proj2 s15 x6) x8 (y 1) (y 0) := by
  simp only [runC]
  sl_unfold_words
  refine read_stored _ _ _ _ _ fun h p => ?_
  rw [← proj2_pay]
  simp only [readAt_all]
  exact turned2 _ _ _ (fun h => View.readAt (Elt Ideal) arg8.view (Rect.unit (s := S8x64) ![h.val, 0] ![1, 64] (row_inb2 h)).toLoadRect (harg8.unread x8))
    (fun h o => readAt_row harg8 h.val h.isLt _ _ o) h p

end Cert.KernelIdeal.Hand

end
-- ==== Proof.Ideal.Decode.lean ====
module

public import proofs.«01_k».proof.Proof.Ideal.AttnAt
public import proofs.«01_k».proof.Proof.Ideal.ProjAt

@[expose] public section

set_option maxRecDepth 16384

noncomputable section

namespace Cert.KernelIdeal.Hand

open Cert.KernelIdeal.Gen
open Idealize.ShloMosaic Idealize.ShloMosaic.TcCoe Idealize.ShloMosaic.Tactic

/-! # The decoder -/

/-- The drug half of the nodes. -/
def lower (p : Fin 1024) : Fin 2048 := ⟨p.val, by omega⟩

/-- The other half. -/
def upper (p : Fin 1024) : Fin 2048 := ⟨1024 + p.val, by omega⟩

/-- The first half's embeddings, through one matrix, against the second half's through another. -/
def decode (h : S2048x512.Idx → EReal) (wr wd : FVec Ideal S512x256 .f32) : S1024x1024.Idx → EReal :=
  fun y => ∑ k : Fin 256, (∑ j : Fin 512, h (ix2 (lower (y 0)) j) * wr (ix2 j k)) * (∑ j : Fin 512, h (ix2 (upper (y 1)) j) * wd (ix2 j k))

theorem pay11_apply (lo hi : FVec Ideal S1024x512 .bf16) (wr wd : FVec Ideal S512x256 .f32) (p q : Fin 1024) :
    k0_pay11 (F := Ideal) lo wr hi wd (ix2 p q)
      = ∑ k : Fin 256, (∑ j : Fin 512, lo (ix2 p j) * wr (ix2 j k)) * (∑ j : Fin 512, hi (ix2 q j) * wd (ix2 j k)) := by
  pointwise [k0_pay11]

/-- A load of some rows of a buffer reads the buffer's contents there. -/
theorem readAt_rows {m n k : ℕ} {e : EltTy} {sp : Space} (v : View sig .tc sp (⟨2, ![m, n]⟩ : Shape) e) (f : v.ty.Idx → Elt Ideal v.ty.elt) (o : ℕ)
    (inb : ∀ x, (![o, 0] : Fin 2 → ℕ) x + (![k, n] : Fin 2 → ℕ) x ≤ (⟨2, ![m, n]⟩ : Shape).size x) (p : Fin k) (q : Fin n) (r : Fin m) (hr : r.val = o + p.val) :
    View.readAt (Elt Ideal) v (Rect.unit (s := ⟨2, ![m, n]⟩) ![o, 0] ![k, n] inb).toLoadRect f (ix2 p q) = v.read (Elt Ideal) f (ix2 r q) := by
  refine congrArg (v.read (Elt Ideal) f) ((unit_emb m n o 0 k n inb p q).trans ?_)
  exact congrArg₂ ix2 (Fin.ext hr.symm) (Fin.ext (Nat.zero_add _))

variable (c : Dev nD) (i : grid0.Coords)
  (arg1 : Memref sig .tc .vmem S2048x256 .f32) (harg1 : arg1.IsWhole)
  (arg2 : Memref sig .tc .vmem S512x2048 .f32) (harg2 : arg2.IsWhole)
  (arg3 : Memref sig .tc .vmem S256x1024 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S1024x512 .f32) (harg6 : arg6.IsWhole)
  (arg7 : Memref sig .tc .vmem S8x64 .f32) (harg7 : arg7.IsWhole)
  (arg8 : Memref sig .tc .vmem S8x64 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S1024x1024 .f32) (harg11 : arg11.IsWhole)
  (arg12 : Memref sig .tc .vmem S2048x1024 .bf16) (harg12 : arg12.IsWhole)
  (arg13 : Memref sig .tc .vmem S2048x8 .f32) (harg13 : arg13.IsWhole)
  (arg14 : Memref sig .tc .vmem S8x2048 .f32) (harg14 : arg14.IsWhole)
  (arg15 : Memref sig .tc .vmem S2048x1024 .bf16) (harg15 : arg15.IsWhole)
  (arg16 : Memref sig .tc .vmem S2048x512 .bf16) (harg16 : arg16.IsWhole)
  (arg17 : Memref sig .tc .vmem S2048x8 .f32) (harg17 : arg17.IsWhole)
  (arg18 : Memref sig .tc .vmem S8x2048 .f32) (harg18 : arg18.IsWhole)
  (arg19 : Memref sig .tc .vmem S2048x512 .bf16) (harg19 : arg19.IsWhole)

/-- The last point's one store to the output: the decoder on two loads of the layer's buffer, the first of rows the point has not changed. -/
theorem runE_stores (h1 : ¬cond1 i) (h2 : ¬cond2 i) (h3 : ¬cond3 i) (h4 : cond4 i) (h5 : cond5 i) (x2 : FVec Ideal S512x2048 .f32) (x9 : FVec Ideal S512x256 .f32) (x10 : FVec Ideal S512x256 .f32) (s16 : FVec Ideal S2048x512 .bf16) (s17 : FVec Ideal S2048x8 .f32) (s18 : FVec Ideal S8x2048 .f32) (s19 : FVec Ideal S2048x512 .bf16) :
    (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).1 = ([⟨Rect.unit (s := S1024x1024) ![0, 0] ![1024, 1024] inb_S1024x1024_S1024x1024_0_0,
      k0_pay11 (F := Ideal) (View.readAt (Elt Ideal) arg19.view (Rect.unit (s := S2048x512) ![0, 0] ![1024, 512] inb_S2048x512_S1024x512_0_0).toLoadRect (harg19.unread s19))
        (View.readAt (Elt Ideal) arg9.view (Rect.unit (s := S512x256) ![0, 0] ![512, 256] inb_S512x256_S512x256_0_0).toLoadRect (harg9.unread x9))
        (View.readAt (Elt Ideal) arg19.view (Rect.unit (s := S2048x512) ![1024, 0] ![1024, 512] inb_S2048x512_S1024x512_1024_0).toLoadRect (arg19.view.writes (Elt Ideal) (harg19.unread s19) (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).2.1))
        (View.readAt (Elt Ideal) arg10.view (Rect.unit (s := S512x256) ![0, 0] ![512, 256] inb_S512x256_S512x256_0_0).toLoadRect (harg10.unread x10))⟩] : List (View.Piece (Elt Ideal) S1024x1024 .f32)) := by
  unfold runE
  dsimp only
  sl_unfold_words
  rfl

/-- The last point's output is the decoder's, of the layer's buffer as the point leaves it. -/
theorem runE_out (h1 : ¬cond1 i) (h2 : ¬cond2 i) (h3 : ¬cond3 i) (h4 : cond4 i) (h5 : cond5 i) (x2 : FVec Ideal S512x2048 .f32) (x9 : FVec Ideal S512x256 .f32) (x10 : FVec Ideal S512x256 .f32) (s16 : FVec Ideal S2048x512 .bf16) (s17 : FVec Ideal S2048x8 .f32) (s18 : FVec Ideal S8x2048 .f32) (s19 : FVec Ideal S2048x512 .bf16) (G : S2048x512.Idx → EReal)
    (hw : Written (n := 512) (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).2.1 G 1536) (f) :
    arg11.view.read (Elt Ideal) (arg11.view.writes (Elt Ideal) f (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).1)
      = decode (arg19.view.read (Elt Ideal) (arg19.view.writes (Elt Ideal) (harg19.unread s19) (runE c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19).2.1)) x9 x10 := by
  refine (congrArg (fun L => arg11.view.read (Elt Ideal) (arg11.view.writes (Elt Ideal) f L)) (runE_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 h3 h4 h5 x2 x9 x10 s16 s17 s18 s19)).trans ?_
  dsimp only
  refine read_stored _ _ _ _ _ fun p q => ?_
  rw [pay11_apply]
  refine Finset.sum_congr rfl fun k _ => congrArg₂ _ (Finset.sum_congr rfl fun j _ => congrArg₂ _ ?_ ?_) (Finset.sum_congr rfl fun j _ => congrArg₂ _ ?_ ?_)
  · refine (readAt_rows _ _ _ _ p j (lower p) (Nat.zero_add _).symm).trans ?_
    refine Eq.trans ?_ (hw.read arg19.view (harg19.unread s19) (ix2 (lower p) j)).symm
    rw [if_neg fun h => absurd h.1 (not_le.mpr (lt_trans p.isLt (by decide)))]
  · exact congrFun (readAt_all harg9 _ x9) _
  · exact readAt_rows _ _ _ _ _ _ _ rfl
  · exact congrFun (readAt_all harg10 _ x10) _

end Cert.KernelIdeal.Hand

end
-- ==== Proof.Ideal.Inputs.lean ====
module

public import proofs.«01_k».proof.Proof.Gen.KernelIdeal.Frame
public import proofs.«01_k».proof.Proof.Ideal.Decode

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-! # What the body finds in the inputs' buffers

Every input but the adjacency matrix is one block; of the adjacency matrix a point sees 512 rows. -/

/-- A block of the whole array's size at block index zero is the array. -/
theorem whole_block {off size : Fin 2 → ℕ} (h : off 0 = 0 ∧ off 1 = 0) : (fun a => off a * size a) = fun _ => 0 :=
  funext fun a => by fin_cases a <;> simp [h.1, h.2]

theorem whole_inb {off size n : Fin 2 → ℕ} (h : off 0 = 0 ∧ off 1 = 0) : ∀ a, off a * size a + n a ≤ n a :=
  fun a => by fin_cases a <;> simp [h.1, h.2]

theorem at_zero0 : ∀ t : Fin cfg0.N, win0_0.index t (0 : Fin 2) = 0 ∧ win0_0.index t (1 : Fin 2) = 0 := (by decide +kernel : ∀ t : Fin grid0.N, _)
theorem at_zero2 : ∀ t : Fin cfg0.N, win0_2.index t (0 : Fin 2) = 0 ∧ win0_2.index t (1 : Fin 2) = 0 := (by decide +kernel : ∀ t : Fin grid0.N, _)
theorem at_zero3 : ∀ t : Fin cfg0.N, win0_3.index t (0 : Fin 2) = 0 ∧ win0_3.index t (1 : Fin 2) = 0 := (by decide +kernel : ∀ t : Fin grid0.N, _)
theorem at_zero4 : ∀ t : Fin cfg0.N, win0_4.index t (0 : Fin 2) = 0 ∧ win0_4.index t (1 : Fin 2) = 0 := (by decide +kernel : ∀ t : Fin grid0.N, _)
theorem at_zero5 : ∀ t : Fin cfg0.N, win0_5.index t (0 : Fin 2) = 0 ∧ win0_5.index t (1 : Fin 2) = 0 := (by decide +kernel : ∀ t : Fin grid0.N, _)
theorem at_zero6 : ∀ t : Fin cfg0.N, win0_6.index t (0 : Fin 2) = 0 ∧ win0_6.index t (1 : Fin 2) = 0 := (by decide +kernel : ∀ t : Fin grid0.N, _)
theorem at_zero7 : ∀ t : Fin cfg0.N, win0_7.index t (0 : Fin 2) = 0 ∧ win0_7.index t (1 : Fin 2) = 0 := (by decide +kernel : ∀ t : Fin grid0.N, _)
theorem at_zero8 : ∀ t : Fin cfg0.N, win0_8.index t (0 : Fin 2) = 0 ∧ win0_8.index t (1 : Fin 2) = 0 := (by decide +kernel : ∀ t : Fin grid0.N, _)
theorem at_zero9 : ∀ t : Fin cfg0.N, win0_9.index t (0 : Fin 2) = 0 ∧ win0_9.index t (1 : Fin 2) = 0 := (by decide +kernel : ∀ t : Fin grid0.N, _)
theorem at_zero10 : ∀ t : Fin cfg0.N, win0_10.index t (0 : Fin 2) = 0 ∧ win0_10.index t (1 : Fin 2) = 0 := (by decide +kernel : ∀ t : Fin grid0.N, _)

/-- The rows of the adjacency matrix that a point of the first layer sees, -/
theorem adj_rows1 : ∀ t : Fin cfg0.N, 1 ≤ t.val → t.val ≤ 4 → win0_1.index t (0 : Fin 2) = t.val - 1 ∧ win0_1.index t (1 : Fin 2) = 0 :=
  (by decide +kernel : ∀ t : Fin grid0.N, _)
/-- and of the second. -/
theorem adj_rows2 : ∀ t : Fin cfg0.N, 6 ≤ t.val → win0_1.index t (0 : Fin 2) = t.val - 6 ∧ win0_1.index t (1 : Fin 2) = 0 :=
  (by decide +kernel : ∀ t : Fin grid0.N, _)

theorem iblk0_eq (c : Dev nD) (t : Fin cfg0.N) : iblk m c 0 t = V m c main_arg0 :=
  Memref.read_access_unit_zero (Elt Ideal) main_arg0 (whole_block (at_zero0 t)) (whole_inb (at_zero0 t)) _
theorem iblk2_eq (c : Dev nD) (t : Fin cfg0.N) : iblk m c 2 t = V m c main_arg2 :=
  Memref.read_access_unit_zero (Elt Ideal) main_arg2 (whole_block (at_zero2 t)) (whole_inb (at_zero2 t)) _
theorem iblk3_eq (c : Dev nD) (t : Fin cfg0.N) : iblk m c 3 t = V m c main_arg3 :=
  Memref.read_access_unit_zero (Elt Ideal) main_arg3 (whole_block (at_zero3 t)) (whole_inb (at_zero3 t)) _
theorem iblk4_eq (c : Dev nD) (t : Fin cfg0.N) : iblk m c 4 t = V m c main_arg4 :=
  Memref.read_access_unit_zero (Elt Ideal) main_arg4 (whole_block (at_zero4 t)) (whole_inb (at_zero4 t)) _
theorem iblk5_eq (c : Dev nD) (t : Fin cfg0.N) : iblk m c 5 t = V m c main_arg5 :=
  Memref.read_access_unit_zero (Elt Ideal) main_arg5 (whole_block (at_zero5 t)) (whole_inb (at_zero5 t)) _
theorem iblk6_eq (c : Dev nD) (t : Fin cfg0.N) : iblk m c 6 t = V m c main_arg6 :=
  Memref.read_access_unit_zero (Elt Ideal) main_arg6 (whole_block (at_zero6 t)) (whole_inb (at_zero6 t)) _
theorem iblk7_eq (c : Dev nD) (t : Fin cfg0.N) : iblk m c 7 t = V m c main_arg7 :=
  Memref.read_access_unit_zero (Elt Ideal) main_arg7 (whole_block (at_zero7 t)) (whole_inb (at_zero7 t)) _
theorem iblk8_eq (c : Dev nD) (t : Fin cfg0.N) : iblk m c 8 t = V m c main_arg8 :=
  Memref.read_access_unit_zero (Elt Ideal) main_arg8 (whole_block (at_zero8 t)) (whole_inb (at_zero8 t)) _
theorem iblk9_eq (c : Dev nD) (t : Fin cfg0.N) : iblk m c 9 t = V m c main_arg9 :=
  Memref.read_access_unit_zero (Elt Ideal) main_arg9 (whole_block (at_zero9 t)) (whole_inb (at_zero9 t)) _

/-- A point at block `b` of the adjacency matrix sees its rows from `512 * b` on. -/
theorem adj_isRows (c : Dev nD) (t : Fin cfg0.N) (b : ℕ) (h : win0_1.index t (0 : Fin 2) = b ∧ win0_1.index t (1 : Fin 2) = 0) :
    IsRows (V m c main_arg1) (512 * b) (iblk m c 1 t) := by
  intro p q j hq
  show V m c main_arg1 (((cfg0.win 1).blk t).view.emb (ix2 p j)) = V m c main_arg1 (ix2 q j)
  congr 1
  funext a; apply Fin.ext
  match a with
  | ⟨0, _⟩ => show win0_1.index t (0 : Fin 2) * 512 + 1 * p.val = q.val; omega
  | ⟨1, _⟩ => show win0_1.index t (1 : Fin 2) * 2048 + 1 * j.val = j.val; omega

theorem adj_layer1 (c : Dev nD) (t : Fin cfg0.N) (h : 1 ≤ t.val) (h' : t.val ≤ 4) :
    IsRows (V m c main_arg1) (row1 (grid0.coords t)) (iblk m c 1 t) := by
  rw [row1_eq t h h']; exact adj_isRows m c t _ (adj_rows1 t h h')

theorem adj_layer2 (c : Dev nD) (t : Fin cfg0.N) (h : 6 ≤ t.val) :
    IsRows (V m c main_arg1) (row2 (grid0.coords t)) (iblk m c 1 t) := by
  rw [row2_eq t h]; exact adj_isRows m c t _ (adj_rows2 t h)

/-! ## The arrays that the kernel builds -/

/-- First layer: the features, -/
def HB1 (c : Dev nD) : FVec Ideal S2048x1024 .bf16 := proj1 (V m c main_arg0) (V m c main_arg2)
/-- every node's score as a receiver, -/
def FS1 (c : Dev nD) : FVec Ideal S2048x8 .f32 := fun y => node1 (HB1 m c) (V m c main_arg3) (y 0) (y 1)
/-- as a sender, -/
def FD1 (c : Dev nD) : FVec Ideal S8x2048 .f32 := fun y => node1 (HB1 m c) (V m c main_arg4) (y 1) (y 0)
/-- and the hidden layer. -/
def H1 (c : Dev nD) : FVec Ideal S2048x1024 .bf16 := attn1 (FS1 m c) (FD1 m c) (V m c main_arg1) (HB1 m c)
/-- Second layer: the same. -/
def HB2 (c : Dev nD) : FVec Ideal S2048x512 .bf16 := proj2 (H1 m c) (V m c main_arg5)
def FS2 (c : Dev nD) : FVec Ideal S2048x8 .f32 := fun y => node2 (HB2 m c) (V m c main_arg6) (y 0) (y 1)
def FD2 (c : Dev nD) : FVec Ideal S8x2048 .f32 := fun y => node2 (HB2 m c) (V m c main_arg7) (y 1) (y 0)
def H2 (c : Dev nD) : FVec Ideal S2048x512 .bf16 := attn2 (FS2 m c) (FD2 m c) (V m c main_arg1) (HB2 m c)
/-- The decoded scores. -/
def OUT (c : Dev nD) : FVec Ideal S1024x1024 .f32 := decode (H2 m c) (V m c main_arg8) (V m c main_arg9)

end Cert.KernelIdeal.Hand

end
-- ==== Proof.Ideal.State.lean ====
module

public import proofs.«01_k».proof.Proof.Ideal.Inputs

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-! # What the scratch holds between points -/

/-- The scratch before point `t`: the first layer's arrays from point 1 on, its rows as far as they have been computed,
    the second layer's arrays from point 6 on, its rows as far as they have been computed. -/
structure Holds (c : Dev nD) (t : ℕ) (s0 : FVec Ideal S2048x1024 .bf16) (s1 : FVec Ideal S2048x8 .f32) (s2 : FVec Ideal S8x2048 .f32) (s3 : FVec Ideal S2048x1024 .bf16)
    (s4 : FVec Ideal S2048x512 .bf16) (s5 : FVec Ideal S2048x8 .f32) (s6 : FVec Ideal S8x2048 .f32) (s7 : FVec Ideal S2048x512 .bf16) : Prop where
  layer1 : 1 ≤ t → s0 = HB1 m c ∧ s1 = FS1 m c ∧ s2 = FD1 m c
  upto1 : ∀ y : S2048x1024.Idx, (y 0).val < 512 * (t - 1) → s3 y = H1 m c y
  layer2 : 6 ≤ t → s4 = HB2 m c ∧ s5 = FS2 m c ∧ s6 = FD2 m c
  upto2 : ∀ y : S2048x512.Idx, (y 0).val < 512 * (t - 6) → s7 y = H2 m c y

variable {m} {c : Dev nD} {t : ℕ} {s0 : FVec Ideal S2048x1024 .bf16} {s1 : FVec Ideal S2048x8 .f32} {s2 : FVec Ideal S8x2048 .f32} {s3 : FVec Ideal S2048x1024 .bf16}
    {s4 : FVec Ideal S2048x512 .bf16} {s5 : FVec Ideal S2048x8 .f32} {s6 : FVec Ideal S8x2048 .f32} {s7 : FVec Ideal S2048x512 .bf16}

/-- At the start nothing is said. -/
theorem Holds.start : Holds m c 0 s0 s1 s2 s3 s4 s5 s6 s7 :=
  ⟨fun h => absurd h (by omega), fun y h => absurd h (by omega), fun h => absurd h (by omega), fun y h => absurd h (by omega)⟩

/-- From point 5 on the hidden layer is complete. -/
theorem Holds.hidden1 (h : Holds m c t s0 s1 s2 s3 s4 s5 s6 s7) (ht : 5 ≤ t) : s3 = H1 m c :=
  funext fun y => h.upto1 y (by have := (y 0).isLt; have e : S2048x1024.size 0 = 2048 := rfl; omega)

/-- After point 0. -/
theorem Holds.first (h : Holds m c t s0 s1 s2 s3 s4 s5 s6 s7) (ht : t = 0) {s0' : FVec Ideal S2048x1024 .bf16} {s1' : FVec Ideal S2048x8 .f32} {s2' : FVec Ideal S8x2048 .f32}
    (e0 : s0' = HB1 m c) (e1 : s1' = FS1 m c) (e2 : s2' = FD1 m c) : Holds m c (t + 1) s0' s1' s2' s3 s4 s5 s6 s7 :=
  ⟨fun _ => ⟨e0, e1, e2⟩, fun y hy => absurd hy (by omega), fun h => absurd h (by omega), fun y hy => absurd hy (by omega)⟩

/-- After a point of the first layer. -/
theorem Holds.rows1 (h : Holds m c t s0 s1 s2 s3 s4 s5 s6 s7) (h1 : 1 ≤ t) (h4 : t ≤ 4) {row : ℕ} (hr : row = 512 * (t - 1)) {s3' : FVec Ideal S2048x1024 .bf16}
    (e : ∀ y : S2048x1024.Idx, s3' y = if row ≤ (y 0).val ∧ (y 0).val < row + 512 then H1 m c y else s3 y) : Holds m c (t + 1) s0 s1 s2 s3' s4 s5 s6 s7 :=
  ⟨fun _ => h.layer1 h1, fun y hy => by
    rw [e y]; split
    · rfl
    · exact h.upto1 y (by omega), fun h => absurd h (by omega), fun y hy => absurd hy (by omega)⟩

/-- After point 5. -/
theorem Holds.second (h : Holds m c t s0 s1 s2 s3 s4 s5 s6 s7) (ht : t = 5) {s4' : FVec Ideal S2048x512 .bf16} {s5' : FVec Ideal S2048x8 .f32} {s6' : FVec Ideal S8x2048 .f32}
    (e4 : s4' = HB2 m c) (e5 : s5' = FS2 m c) (e6 : s6' = FD2 m c) : Holds m c (t + 1) s0 s1 s2 s3 s4' s5' s6' s7 :=
  ⟨fun _ => h.layer1 (by omega), fun y hy => congrFun (h.hidden1 (by omega)) y, fun _ => ⟨e4, e5, e6⟩, fun y hy => absurd hy (by omega)⟩

/-- After a point of the second layer. -/
theorem Holds.rows2 (h : Holds m c t s0 s1 s2 s3 s4 s5 s6 s7) (h6 : 6 ≤ t) {row : ℕ} (hr : row = 512 * (t - 6)) {s7' : FVec Ideal S2048x512 .bf16}
    (e : ∀ y : S2048x512.Idx, s7' y = if row ≤ (y 0).val ∧ (y 0).val < row + 512 then H2 m c y else s7 y) : Holds m c (t + 1) s0 s1 s2 s3 s4 s5 s6 s7' :=
  ⟨fun _ => h.layer1 (by omega), fun y hy => congrFun (h.hidden1 (by omega)) y, fun _ => h.layer2 h6, fun y hy => by
    rw [e y]; split
    · rfl
    · exact h.upto2 y (by omega)⟩

/-- After the last point the second layer is complete. -/
theorem Holds.hidden2 (h : Holds m c t s0 s1 s2 s3 s4 s5 s6 s7) (ht : 10 ≤ t) : s7 = H2 m c :=
  funext fun y => h.upto2 y (by have := (y 0).isLt; have e : S2048x512.size 0 = 2048 := rfl; omega)

/-- Rows stored over a buffer that held `s`. -/
theorem Written.onto {n : ℕ} {e : EltTy} {L : List (View.Piece (Elt Ideal) (⟨2, ![2048, n]⟩ : Shape) e)} {G : (⟨2, ![2048, n]⟩ : Shape).Idx → Elt Ideal e} {row : ℕ}
    (h : Written L G row) {a : Memref sig .tc .vmem (⟨2, ![2048, n]⟩ : Shape) e} (ha : a.IsWhole) (s : (⟨2, ![2048, n]⟩ : Shape).Idx → Elt Ideal e) (y : (⟨2, ![2048, n]⟩ : Shape).Idx) :
    a.view.read (Elt Ideal) (a.view.writes (Elt Ideal) (ha.unread s) L) y = if row ≤ (y 0).val ∧ (y 0).val < row + 512 then G y else s y := by
  rw [h.read, ha.read_unread]

/-- The same stores, at the same rows written otherwise. -/
theorem Written.at {n : ℕ} {e : EltTy} {L : List (View.Piece (Elt Ideal) (⟨2, ![2048, n]⟩ : Shape) e)} {G : (⟨2, ![2048, n]⟩ : Shape).Idx → Elt Ideal e} {row row' : ℕ}
    (h : Written L G row) (e : row = row') : Written L G row' := e ▸ h

end Cert.KernelIdeal.Hand

end
-- ==== Proof.Ideal.Track.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Frame
public import proofs.«01_k».proof.Proof.Ideal.Buffers
public import proofs.«01_k».proof.Proof.Ideal.State

@[expose] public section

set_option maxRecDepth 16384

noncomputable section

namespace Cert.KernelIdeal.Track

open Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable (m : (ℓ : Loc nD τ sig) → Buf (Elt Ideal) ℓ) (ρ : Dev nD → PrngReg)

local notation "𝕄" => MT nD τ sig Unit (Elt Ideal) ℕ (UR sig nD τ) ℕ

/-- A buffer owned at raw contents holds what is read there. -/
theorem owns_of_read {s : Shape} {e : EltTy} (c : Dev nD) (a : Memref sig .tc .vmem s e) (f) :
    (a.view.loc (c : Thread nD τ) ↦[a.view.set]{fullShare} f : sProp 𝕄) ⊢ owns (c : Thread nD τ) a fullShare (a.view.read (Elt Ideal) f) := by
  unfold owns; iintro H; iexists _; isplitr
  swap; · iexact H
  ipureintro; rfl

/-- A buffer owned at raw contents that read as `X` holds `X`. -/
theorem owns_of_value {s : Shape} {e : EltTy} (c : Dev nD) (a : Memref sig .tc .vmem s e) (f) (X : s.Idx → Elt Ideal e) (h : a.view.read (Elt Ideal) f = X) :
    (a.view.loc (c : Thread nD τ) ↦[a.view.set]{fullShare} f : sProp 𝕄) ⊢ owns (c : Thread nD τ) a fullShare X :=
  h ▸ owns_of_read c a f

/-- The last point's body on the buffers of that point. -/
abbrev lastRun (c : Dev nD) (t : Fin cfg0.N) (ht : t.val = 9) (s7 : FVec Ideal S2048x512 .bf16) :=
  runE (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (fun h => absurd ((cond1_iff t).mp h) (by omega)) (fun h => absurd ((cond2_iff t).mp h) (by omega)) (fun h => absurd ((cond3_iff t).mp h) (by omega)) ((cond4_iff t).mpr (by omega)) ((cond5_iff t).mpr (by omega)) (iblk m c 1 t) (iblk m c 8 t) (iblk m c 9 t) (HB2 m c) (FS2 m c) (FD2 m c) s7

theorem lastRun_written (c : Dev nD) (t : Fin cfg0.N) (ht : t.val = 9) (s7 : FVec Ideal S2048x512 .bf16) :
    Written (n := 512) (lastRun m c t ht s7).2.1 (H2 m c) 1536 :=
  (runE_written (hX := adj_layer2 m c t (by omega)) ..).at (by rw [row2_eq t (by omega)]; omega)

/-- The last point stores the decoded scores. -/
theorem lastRun_out (c : Dev nD) (t : Fin cfg0.N) (ht : t.val = 9) (s7 : FVec Ideal S2048x512 .bf16) {s0 s1 s2 s3 s4 s5 s6} (hI : Holds m c t.val s0 s1 s2 s3 s4 s5 s6 s7) (f) :
    (ms10 t).view.read (Elt Ideal) ((ms10 t).view.writes (Elt Ideal) f (lastRun m c t ht s7).1) = OUT m c := by
  refine (runE_out (hw := lastRun_written m c t ht s7) ..).trans ?_
  exact congr (congr (congrArg decode ((hI.rows2 (by omega) (by omega) ((lastRun_written m c t ht s7).onto _ _)).hidden2 (by omega))) (iblk8_eq m c t)) (iblk9_eq m c t)

/-- Before point `t` the scratch holds what the points so far have left there. -/
def state (c : Dev nD) (t : ℕ) : sProp 𝕄 :=
  iprop((∃ s0 s1 s2 s3 s4 s5 s6 s7, owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ owns (c : Thread nD τ) sc6 fullShare s6 ∗ owns (c : Thread nD τ) sc7 fullShare s7
      ∗ ⌜Holds m c t s0 s1 s2 s3 s4 s5 s6 s7⌝) ∗ (∃ r, prngReg c r))

/-- The proof data: every input's buffer stays at its block, the scratch is tracked, the output ends at the decoded scores. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c
  Φ t := state m c t.val
  q _ := fullShare
  owed _ := 0

theorem A_eq (c : Dev nD) (w : Fin cfg0.W) : (dats m 0 c).A w = V m c (Pipeline.arrRef spec0 w) := by dsimp only [dats]

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t)
    ∧ (dats m 0 c).leavesExact 5 t = owns (c : Thread nD τ) (ms5 t) fullShare (iblk m c 5 t)
    ∧ (dats m 0 c).leavesExact 6 t = owns (c : Thread nD τ) (ms6 t) fullShare (iblk m c 6 t)
    ∧ (dats m 0 c).leavesExact 7 t = owns (c : Thread nD τ) (ms7 t) fullShare (iblk m c 7 t)
    ∧ (dats m 0 c).leavesExact 8 t = owns (c : Thread nD τ) (ms8 t) fullShare (iblk m c 8 t)
    ∧ (dats m 0 c).leavesExact 9 t = owns (c : Thread nD τ) (ms9 t) fullShare (iblk m c 9 t) := by
  refine ⟨?_, ?_, ?_, ?_, ?_, ?_, ?_, ?_, ?_, ?_⟩ <;> rfl

/-- What the body is entered with at a point, -/
def bodyPre (c : Dev nD) (t : Fin cfg0.N) : sProp 𝕄 :=
  iprop(state m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and left with. -/
def bodyPost (c : Dev nD) (t : Fin cfg0.N) : sProp 𝕄 :=
  iprop(state m c (t.val + 1) ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d

/-- Away from the last point the output's buffer is left as found, -/
theorem out_kept (c : Dev nD) (t : Fin cfg0.N) (h : t.val ≠ 9) :
    (dats m 0 c).leavesExact 10 t = iprop(∃ d, owns (c : Thread nD τ) (ms10 t) fullShare ((dats m 0 c).before 10 t d)) :=
  (dats m 0 c).leavesExact_idle 10 t (out_idle0 t h) (out_noflush t h)

/-- and at the last it holds the decoded scores. -/
theorem out_left (c : Dev nD) (t : Fin cfg0.N) (h : t.val = 9) :
    (dats m 0 c).leavesExact 10 t = owns (c : Thread nD τ) (ms10 t) fullShare (OUT m c) := by
  unfold Dat.leavesExact; rw [out_live t h]; rfl

set_option maxHeartbeats 8000000 in
/-- The body at any point: the case the point is in runs on the buffers it touches; all others are carried along. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0 state
  obtain ⟨l0, l1, l2, l3, l4, l5, l6, l7, l8, l9⟩ := leaves_in m c t
  simp only [before_0, before_1, before_2, before_3, before_4, before_5, before_6, before_7, before_8, before_9]
  rw [l0, l1, l2, l3, l4, l5, l6, l7, l8, l9]
  rw [show (dats m 0 c).owesAt () t.succ = (dats m 0 c).owesAt () t.castSucc from rfl]
  have hN : t.val < 10 := lt_of_lt_of_eq t.isLt (show cfg0.N = 10 from N_0)
  iintro ⟨⟨⟨%s0, %s1, %s2, %s3, %s4, %s5, %s6, %s7, S0, S1, S2, S3, S4, S5, S6, S7, %hI⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rcases (show (t.val = 0) ∨ (1 ≤ t.val ∧ t.val ≤ 4) ∨ (t.val = 5) ∨ (6 ≤ t.val ∧ t.val ≤ 8) ∨ (t.val = 9) by omega) with ht | ht | ht | ht | ht
  · rw [out_kept m c t (by omega)]
    iapply ((runA c (grid0.coords t) _ _ _ _ _ _ _ _ _ _ _ _ _ _ _ _ _ _ _ _ _ _ _ _ _ _ _ _ _ _ _ _ _ _ _ _ _ _ ((cond1_iff t).mpr (by omega)) (fun h => absurd ((cond2_iff t).mp h) (by omega)) (fun h => absurd ((cond3_iff t).mp h) (by omega)) (fun h => absurd ((cond4_iff t).mp h) (by omega)) (fun h => absurd ((cond5_iff t).mp h) (by omega)) (iblk m c 0 t) (iblk m c 2 t) (iblk m c 3 t) (iblk m c 4 t)).2.2.2 Set.univ _)
    isplitl [H0]; · iexact H0
    isplitl [H2]; · iexact H2
    isplitl [H3]; · iexact H3
    isplitl [H4]; · iexact H4
    isplitl [S0]; · iexists _; iexact S0
    isplitl [S1]; · iexists _; iexact S1
    isplitl [S2]; · iexists _; iexact S2
    iintro ⟨H0, H2, H3, H4, ⟨%eS0, S0⟩, ⟨%eS1, S1⟩, ⟨%eS2, S2⟩⟩
    isplitl [S0 S1 S2 S3 S4 S5 S6 S7 Hg]
    · isplitl [S0 S1 S2 S3 S4 S5 S6 S7]
      · iexists _; iexists _; iexists _; iexists _; iexists _; iexists _; iexists _; iexists _
        isplitl [S0]; · iapply (owns_of_read c sc0 _); iexact S0
        isplitl [S1]; · iapply (owns_of_read c sc1 _); iexact S1
        isplitl [S2]; · iapply (owns_of_read c sc2 _); iexact S2
        isplitl [S3]; · iexact S3
        isplitl [S4]; · iexact S4
        isplitl [S5]; · iexact S5
        isplitl [S6]; · iexact S6
        isplitl [S7]; · iexact S7
        ipureintro
        exact hI.first (by omega) ((runA_feat ..).trans (by rw [iblk0_eq, iblk2_eq]; rfl)) ((runA_src ..).trans (by rw [iblk0_eq, iblk2_eq, iblk3_eq]; rfl)) ((runA_tgt ..).trans (by rw [iblk0_eq, iblk2_eq, iblk4_eq]; rfl))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [out_kept m c t (by omega)]
    obtain ⟨rfl, rfl, rfl⟩ := hI.layer1 (by omega)
    iapply ((runB c (grid0.coords t) _ _ _ _ _ _ _ _ _ _ _ _ _ _ _ _ _ _ _ _ _ _ _ _ _ _ _ _ _ _ _ _ _ _ _ _ _ _ (fun h => absurd ((cond1_iff t).mp h) (by omega)) ((cond2_iff t).mpr (by omega)) (fun h => absurd ((cond3_iff t).mp h) (by omega)) (fun h => absurd ((cond4_iff t).mp h) (by omega)) (fun h => absurd ((cond5_iff t).mp h) (by omega)) (iblk m c 1 t) _ _ _).2 _ Set.univ _)
    isplitl [H1]; · iexact H1
    isplitl [S0]; · iexact S0
    isplitl [S1]; · iexact S1
    isplitl [S2]; · iexact S2
    isplitl [S3]; · iexact S3
    iintro ⟨H1, S0, S1, S2, S3⟩
    isplitl [S0 S1 S2 S3 S4 S5 S6 S7 Hg]
    · isplitl [S0 S1 S2 S3 S4 S5 S6 S7]
      · iexists _; iexists _; iexists _; iexists _; iexists _; iexists _; iexists _; iexists _
        isplitl [S0]; · iexact S0
        isplitl [S1]; · iexact S1
        isplitl [S2]; · iexact S2
        isplitl [S3]; · iapply (owns_of_read c sc3 _); iexact S3
        isplitl [S4]; · iexact S4
        isplitl [S5]; · iexact S5
        isplitl [S6]; · iexact S6
        isplitl [S7]; · iexact S7
        ipureintro
        exact hI.rows1 (by omega) (by omega) (row1_eq t (by omega) (by omega)) ((runB_written (hX := adj_layer1 m c t (by omega) (by omega)) ..).onto _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [out_kept m c t (by omega)]
    obtain rfl := hI.hidden1 (by omega)
    iapply ((runC c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) ((cond3_iff t).mpr (by omega)) (fun h => absurd ((cond4_iff t).mp h) (by omega)) (fun h => absurd ((cond5_iff t).mp h) (by omega)) (iblk m c 5 t) (iblk m c 6 t) (iblk m c 7 t) _).2.2.2 Set.univ _)
    isplitl [H5]; · iexact H5
    isplitl [H6]; · iexact H6
    isplitl [H7]; · iexact H7
    isplitl [S3]; · iexact S3
    isplitl [S4]; · iexists _; iexact S4
    isplitl [S5]; · iexists _; iexact S5
    isplitl [S6]; · iexists _; iexact S6
    iintro ⟨H5, H6, H7, S3, ⟨%eS4, S4⟩, ⟨%eS5, S5⟩, ⟨%eS6, S6⟩⟩
    isplitl [S0 S1 S2 S3 S4 S5 S6 S7 Hg]
    · isplitl [S0 S1 S2 S3 S4 S5 S6 S7]
      · iexists _; iexists _; iexists _; iexists _; iexists _; iexists _; iexists _; iexists _
        isplitl [S0]; · iexact S0
        isplitl [S1]; · iexact S1
        isplitl [S2]; · iexact S2
        isplitl [S3]; · iexact S3
        isplitl [S4]; · iapply (owns_of_read c sc4 _); iexact S4
        isplitl [S5]; · iapply (owns_of_read c sc5 _); iexact S5
        isplitl [S6]; · iapply (owns_of_read c sc6 _); iexact S6
        isplitl [S7]; · iexact S7
        ipureintro
        exact hI.second (by omega) ((runC_feat ..).trans (by rw [iblk5_eq]; rfl)) ((runC_src ..).trans (by rw [iblk5_eq, iblk6_eq]; rfl)) ((runC_tgt ..).trans (by rw [iblk5_eq, iblk7_eq]; rfl))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [out_kept m c t (by omega)]
    obtain ⟨rfl, rfl, rfl⟩ := hI.layer2 (by omega)
    iapply ((runD c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) (fun h => absurd ((cond5_iff t).mp h) (by omega)) (iblk m c 1 t) _ _ _).2 _ Set.univ _)
    isplitl [H1]; · iexact H1
    isplitl [S4]; · iexact S4
    isplitl [S5]; · iexact S5
    isplitl [S6]; · iexact S6
    isplitl [S7]; · iexact S7
    iintro ⟨H1, S4, S5, S6, S7⟩
    isplitl [S0 S1 S2 S3 S4 S5 S6 S7 Hg]
    · isplitl [S0 S1 S2 S3 S4 S5 S6 S7]
      · iexists _; iexists _; iexists _; iexists _; iexists _; iexists _; iexists _; iexists _
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iapply (owns_of_read c sc7 _); iexact S7
        ipureintro
        exact hI.rows2 (by omega) (row2_eq t (by omega)) ((runD_written (hX := adj_layer2 m c t (by omega)) ..).onto _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [out_left m c t (by omega)]
    obtain ⟨rfl, rfl, rfl⟩ := hI.layer2 (by omega)
    iapply ((runE c (grid0.coords t) _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) ((cond5_iff t).mpr (by omega)) (iblk m c 1 t) (iblk m c 8 t) (iblk m c 9 t) _ _ _ _).2.2 Set.univ _)
    isplitl [H1]; · iexact H1
    isplitl [H8]; · iexact H8
    isplitl [H9]; · iexact H9
    isplitl [S4]; · iexact S4
    isplitl [S5]; · iexact S5
    isplitl [S6]; · iexact S6
    isplitl [H10]; · iexists _; iexact H10
    isplitl [S7]; · iexact S7
    iintro ⟨H1, H8, H9, S4, S5, S6, ⟨%eH10, H10⟩, S7⟩
    isplitl [S0 S1 S2 S3 S4 S5 S6 S7 Hg]
    · isplitl [S0 S1 S2 S3 S4 S5 S6 S7]
      · iexists _; iexists _; iexists _; iexists _; iexists _; iexists _; iexists _; iexists _
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iapply (owns_of_read c sc7 _); iexact S7
        ipureintro
        exact hI.rows2 (by omega) (row2_eq t (by omega)) ((runE_written (hX := adj_layer2 m c t (by omega)) ..).onto _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (owns_of_value c (ms10 t) _ _ (lastRun_out m c t ht s7 hI eH10)); iexact H10

/-- The body's triple in the form the launch asks for. -/
theorem body_obligation (c : Dev nD) : BodyObligation (dats m 0 c) (defs₀ (F := Ideal)) Variants.none () Set.univ := fun t => by
  rw [bigSep_W0, bigSep_W0, row_eq]
  exact triple_restated (sound_body m c t) rfl .rfl fun _ => .rfl

end Cert.KernelIdeal.Track

end
-- ==== Proof.Ideal.Result.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Frame
public import Idealize.ShloMosaic.Lib.Claim
public import proofs.«01_k».proof.Proof.Ideal.Track

@[expose] public section

set_option maxRecDepth 16384

noncomputable section

namespace Cert.KernelIdeal.Track

open Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation BodyObligationLoose cellOf)
open Idealize.SL.BI.BIBase Idealize.SL.BI.Laws Idealize.SL.ProofMode Idealize.SL.Sem

variable (m : (ℓ : Loc nD τ sig) → Buf (Elt Ideal) ℓ) (ρ : Dev nD → PrngReg)

local notation "𝕄" => MT nD τ sig Unit (Elt Ideal) ℕ (UR sig nD τ) ℕ

/-- The region is entered with the scratch at anything, -/
theorem enter (c : Dev nD) : (Pipeline.ΦA spec0 c : sProp 𝕄) ⊢ (dats m 0 c).Φ 0 := by
  show _ ⊢ state m c 0
  rw [rest_eq]; unfold state
  iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩
  isplitl [S0 S1 S2 S3 S4 S5 S6 S7]
  · iexists _; iexists _; iexists _; iexists _; iexists _; iexists _; iexists _; iexists _
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    ipureintro
    exact Holds.start
  iexact Hg

/-- and left with it at what it holds. -/
theorem leave (c : Dev nD) : (dats m 0 c).Φ (Fin.last cfg0.N) ⊢ (Pipeline.ΦA spec0 c : sProp 𝕄) := by
  show state m c _ ⊢ _
  rw [rest_eq]; unfold state
  iintro ⟨⟨%s0, %s1, %s2, %s3, %s4, %s5, %s6, %s7, S0, S1, S2, S3, S4, S5, S6, S7, %hI⟩, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

/-- The one write-back, at the last point, writes the decoded scores. -/
theorem flushed_eq (c : Dev nD) (t : Fin cfg0.N) (hf : (cfg0.win 10).flush t = true) :
    (dats m 0 c).flushed 10 t = ((cfg0.win 10).blk t).view.read (Elt Ideal) (OUT m c) := by
  show (cfg0.win 10).cut (grid0.coords t) ((dats m 0 c).after 10 t) = _
  dsimp only [dats]
  exact (Memref.read_access_unit_zero (Elt Ideal) main_v0 (whole_block (at_zero10 t)) (whole_inb (at_zero10 t)) (OUT m c)).symm

theorem last_size : win0_10.xsize (grid0.coords t0_9) (0 : Fin 2) = 1024 ∧ win0_10.xsize (grid0.coords t0_9) (1 : Fin 2) = 1024 := by decide +kernel

/-- That block is the whole array. -/
theorem covered (i : S1024x1024.Idx) : ∃ t : Fin cfg0.N, (cfg0.win 10).flush t = true ∧ i ∈ ((cfg0.win 10).blk t).view.set :=
  ⟨t0_9, (flush0_10 t0_9).mpr rfl, by
    show i ∈ ((View.whole main_v0).slice (win0_10.rect t0_9)).set
    rw [View.set_slice_whole, Rect.mem_set_unit]
    obtain ⟨e0, e1⟩ := at_zero10 t0_9
    obtain ⟨z0, z1⟩ := last_size
    intro a
    have h0 : (i 0 : Nat) < 1024 := (i 0).isLt
    have h1 : (i 1 : Nat) < 1024 := (i 1).isLt
    match a with
    | ⟨0, _⟩ => show win0_10.index t0_9 (0 : Fin 2) * win0_10.size (0 : Fin 2) ≤ (i 0 : Nat) ∧ (i 0 : Nat) < win0_10.index t0_9 (0 : Fin 2) * win0_10.size (0 : Fin 2) + win0_10.xsize (grid0.coords t0_9) (0 : Fin 2)
                rw [e0, z0]; omega
    | ⟨1, _⟩ => show win0_10.index t0_9 (1 : Fin 2) * win0_10.size (1 : Fin 2) ≤ (i 1 : Nat) ∧ (i 1 : Nat) < win0_10.index t0_9 (1 : Fin 2) * win0_10.size (1 : Fin 2) + win0_10.xsize (grid0.coords t0_9) (1 : Fin 2)
                rw [e1, z1]; omega⟩

/-- So the region's result ends at the decoded scores, -/
theorem final_out (c : Dev nD) : (dats m 0 c).arrAt 10 cfg0.N = OUT m c :=
  (dats m 0 c).arrAt_eq_of_cover 10 (OUT m c) (flushed_eq m c) covered

/-- and the kernel's result is those scores laid out flat. -/
def flat (c : Dev nD) : FVec Ideal S1048576 .f32 := shapeCast S1048576 (OUT m c) shapeCasts_S1024x1024_S1048576

theorem tail_result (c : Dev nD) : Pipeline.afterTail₀ cfgs (dats m) 0 (V0 m) [hostOps1] c main_v1 = flat m c := by
  have h : Pipeline.withArrays spec0 c (V0 m c) (fun w => (dats m 0 c).arrAt w cfg0.N) (Proc.devRef .tc main_v0) = OUT m c :=
    (Pipeline.withArrays_arr spec0 launch0.win.arr_inj c _ _ 10).trans (final_out m c)
  unfold flat
  rw [← h]
  show StableHlo.after hostOps1 _ (Proc.devRef .tc main_v1) = _
  unfold hostOps1
  after_results
  rfl

set_option backward.isDefEq.respectTransparency.types false in
/-- The run of the whole program: the flat scores, the arguments as they were. -/
theorem run : θ_run defs (onTc (τ := τ) (main (F := Ideal))) ⟨m, fun _ => 0, ρ⟩ (fun r => ∀ c : Dev nD,
      r.2.mem ((c.tc : Thread nD τ).loc main_v1) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)
    (Q' := _)
    (hQ' := fun r h c => ⟨((h.1 c).2 main_v1 (by decide)).trans (tail_result m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c)))⟩)

end Cert.KernelIdeal.Track

end
-- ==== Proof.Reference.Pieces.lean ====
module

public import proofs.«01_k».proof.Proof.Gen.ReferenceIdeal.Read
public import Idealize.ShloMosaic.Lib.Pointwise
public import proofs.«01_k».proof.Proof.Ideal.Math

@[expose] public section

set_option maxRecDepth 16384

noncomputable section

namespace Cert.ReferenceIdeal.Gat

open Cert.ReferenceIdeal Cert.ReferenceIdeal.Gen Cert.ReferenceIdeal.Read
open Idealize.ShloMosaic Idealize.ShloMosaic.TcCoe Idealize.ShloMosaic.StableHlo

/-! # What one layer of the reference computes

The reference writes each layer as the same chain of array operations; only the widths differ. The chain is named here once, read at an
index, and both layers are instances of it. -/

/-- The sums of a receiver's and a sender's score. -/
def sums (f d : FVec Ideal S2048x8 .f32) : FVec Ideal S2048x2048x8 .f32 :=
  addf (broadcastInDim S2048x2048x8 ![0, 1, 2] bcast_S2048x1x8_S2048x2048x8_0_1_2 (broadcastInDim S2048x1x8 ![0, 2] bcast_S2048x8_S2048x1x8_0_2 f))
    (broadcastInDim S2048x2048x8 ![0, 1, 2] bcast_S1x2048x8_S2048x2048x8_0_1_2 (broadcastInDim S1x2048x8 ![1, 2] bcast_S2048x8_S1x2048x8_1_2 d))

/-- The rectified sums, minus infinity where there is no edge. -/
def scores (f d : FVec Ideal S2048x8 .f32) (A : FVec Ideal S2048x2048 .f32) : FVec Ideal S2048x2048x8 .f32 :=
  let all (b : BitVec 32) : FVec Ideal S2048x2048x8 .f32 := broadcastInDim S2048x2048x8 ![] bcast_S_S2048x2048x8 (constant S_ .f32 b)
  select (broadcastInDim S2048x2048x8 ![0, 1, 2] bcast_S2048x2048x1_S2048x2048x8_0_1_2 (broadcastInDim S2048x2048x1 ![0, 1]
      bcast_S2048x2048_S2048x2048x1_0_1 (cmpf .ogt A (broadcastInDim S2048x2048 ![] bcast_S_S2048x2048 (constant (F := Ideal) S_ .f32 0x00000000#32)))))
    (select (cmpf .oge (sums f d) (all 0x00000000#32)) (sums f d) (mulf (all 0x3E4CCCCD#32) (sums f d)))
    (all 0xFF800000#32)

/-- A number for each receiver, repeated for every sender. -/
def spread (g : FVec Ideal S2048x8 .f32) : FVec Ideal S2048x2048x8 .f32 :=
  broadcastInDim S2048x2048x8 ![0, 1, 2] bcast_S2048x1x8_S2048x2048x8_0_1_2 (broadcastInDim S2048x1x8 ![0, 2] bcast_S2048x8_S2048x1x8_0_2 g)

/-- The greatest score of each receiver. -/
def greatest (e : FVec Ideal S2048x2048x8 .f32) : FVec Ideal S2048x8 .f32 :=
  Host.reduce FloatOps.maximumf e (constant (F := Ideal) S_ .f32 0xFF800000#32) reducesTo_S2048x2048x8_S2048x8_d1 h_S_

/-- The sum over the senders. -/
def total (e : FVec Ideal S2048x2048x8 .f32) : FVec Ideal S2048x8 .f32 :=
  Host.reduceAdd e (constant (F := Ideal) S_ .f32 0x00000000#32) reducesTo_S2048x2048x8_S2048x8_d1 h_S_

/-- The powers of the scores, each less a number of its receiver's. -/
def powersOf (e : FVec Ideal S2048x2048x8 .f32) (g : FVec Ideal S2048x8 .f32) : FVec Ideal S2048x2048x8 .f32 :=
  Host.exp (subf e (spread (maximumf (broadcastInDim S2048x8 ![] bcast_S_S2048x8 (constant (F := Ideal) S_ .f32 0xFF800000#32)) g)))

/-- The powers, the number the receiver's greatest score. -/
def powers (e : FVec Ideal S2048x2048x8 .f32) : FVec Ideal S2048x2048x8 .f32 := powersOf e (greatest e)

/-- Weights in proportion to the powers. -/
def shares (p : FVec Ideal S2048x2048x8 .f32) (z : FVec Ideal S2048x8 .f32) : FVec Ideal S2048x2048x8 .f32 := Host.divf p (spread z)

/-- The softmax over the senders. -/
def softmax (e : FVec Ideal S2048x2048x8 .f32) : FVec Ideal S2048x2048x8 .f32 := shares (powers e) (total (powers e))

theorem scores_apply (f d : FVec Ideal S2048x8 .f32) (A : FVec Ideal S2048x2048 .f32) (i j : Fin 2048) (h : Fin 8) :
    scores f d A (ix3 i j h) = Cert.Gat.refScore (f (ix2 i h)) (d (ix2 j h)) (A (ix2 i j)) := by
  pointwise [scores, sums]
  rw [Cert.Gat.lit_minf]
  rfl

theorem spread_apply (g : FVec Ideal S2048x8 .f32) (i j : Fin 2048) (h : Fin 8) : spread g (ix3 i j h) = g (ix2 i h) := by
  pointwise [spread]

theorem greatest_apply (e : FVec Ideal S2048x2048x8 .f32) (i : Fin 2048) (h : Fin 8) :
    greatest e (ix2 i h) = Cert.Gat.rowMax fun k => e (ix3 i k h) := by
  pointwise [greatest]
  rw [Cert.Gat.lit_minf]
  rfl

theorem total_apply (e : FVec Ideal S2048x2048x8 .f32) (i : Fin 2048) (h : Fin 8) : total e (ix2 i h) = ∑ k, e (ix3 i k h) := by
  pointwise [total]

theorem powersOf_apply (e : FVec Ideal S2048x2048x8 .f32) (g : FVec Ideal S2048x8 .f32) (i j : Fin 2048) (h : Fin 8) :
    powersOf e g (ix3 i j h) = Ideal.exp (e (ix3 i j h) - g (ix2 i h)) := by
  pointwise [powersOf, spread_apply]
  rw [Cert.Gat.lit_minf, max_eq_right bot_le]

theorem powers_apply (e : FVec Ideal S2048x2048x8 .f32) (i j : Fin 2048) (h : Fin 8) :
    powers e (ix3 i j h) = Ideal.exp (e (ix3 i j h) - Cert.Gat.rowMax fun k => e (ix3 i k h)) := by
  rw [powers, powersOf_apply, greatest_apply]

theorem shares_apply (p : FVec Ideal S2048x2048x8 .f32) (z : FVec Ideal S2048x8 .f32) (i j : Fin 2048) (h : Fin 8) :
    shares p z (ix3 i j h) = Ideal.div (p (ix3 i j h)) (z (ix2 i h)) := by
  pointwise [shares, spread_apply]

theorem softmax_apply (e : FVec Ideal S2048x2048x8 .f32) (i j : Fin 2048) (h : Fin 8) :
    softmax e (ix3 i j h) = Ideal.div (Ideal.exp (e (ix3 i j h) - Cert.Gat.rowMax fun k => e (ix3 i k h)))
      (∑ l, Ideal.exp (e (ix3 i l h) - Cert.Gat.rowMax fun k => e (ix3 i k h))) := by
  rw [softmax, shares_apply, total_apply, powers_apply]
  exact congrArg _ (Finset.sum_congr rfl fun l _ => powers_apply e i l h)

/-- The activation of one number. -/
def elu (x : Ideal .f32) : Ideal .f32 :=
  let c (b : BitVec 32) : Ideal .f32 := FloatOps.ofBits .f32 b
  let t2 := FloatOps.mulf x x
  let t4 := FloatOps.mulf t2 t2
  let s := FloatOps.addf x (FloatOps.hostDivf t2 (c 0x40000000#32))
  let s := FloatOps.addf s (FloatOps.hostDivf (FloatOps.mulf t2 x) (c 0x40C00000#32))
  let s := FloatOps.addf s (FloatOps.hostDivf t4 (c 0x41C00000#32))
  let s := FloatOps.addf s (FloatOps.hostDivf (FloatOps.mulf x t4) (c 0x42F00000#32))
  let s := FloatOps.addf s (FloatOps.hostDivf (FloatOps.mulf t2 t4) (c 0x44340000#32))
  let s := FloatOps.addf s (FloatOps.hostDivf (FloatOps.mulf (FloatOps.mulf x t2) t4) (c 0x459D8000#32))
  Scalar.select (FloatOps.cmpf .ogt x (c 0x00000000#32)) x
    (Scalar.select (FloatOps.cmpf .ogt x (c 0xBE800000#32)) s (FloatOps.hostUnary .expm1 x))

theorem elu_eq (x : Ideal .f32) : elu x = Cert.Gat.refElu x := by
  pointwise [elu]
  rw [Cert.Gat.lit_quarter, Cert.Gat.lit_2, Cert.Gat.lit_6, Cert.Gat.lit_24, Cert.Gat.lit_120, Cert.Gat.lit_720, Cert.Gat.lit_5040]
  rfl

variable (x0 : FVec Ideal S2048x256 .f32) (x1 : FVec Ideal S2048x2048 .f32) (x2 : FVec Ideal S256x1024 .f32) (x3 x4 : FVec Ideal S8x128 .f32)
  (x5 : FVec Ideal S1024x512 .f32) (x6 x7 : FVec Ideal S8x64 .f32) (x8 x9 : FVec Ideal S512x256 .f32)

theorem weights1 : val_main_v36 (F := Ideal) x0 x1 x2 x3 x4
    = softmax (scores (val_main_v5 (F := Ideal) x0 x2 x3) (val_main_v9 (F := Ideal) x0 x2 x4) x1) := rfl

theorem weights2 : val_main_v116 (F := Ideal) x0 x1 x2 x3 x4 x5 x6 x7
    = softmax (scores (val_main_v85 (F := Ideal) x0 x1 x2 x3 x4 x5 x6) (val_main_v89 (F := Ideal) x0 x1 x2 x3 x4 x5 x7) x1) := rfl

theorem active1 (i : S2048x8x128.Idx) : val_main_v78 (F := Ideal) x0 x1 x2 x3 x4 i = elu (val_main_v38 (F := Ideal) x0 x1 x2 x3 x4 i) := rfl

theorem active2 (i : S2048x8x64.Idx) :
    val_main_v158 (F := Ideal) x0 x1 x2 x3 x4 x5 x6 x7 i = elu (val_main_v118 (F := Ideal) x0 x1 x2 x3 x4 x5 x6 x7 i) := rfl

end Cert.ReferenceIdeal.Gat

end
-- ==== Proof.Reference.Layers.lean ====
module

public import proofs.«01_k».proof.Proof.Reference.Pieces
public import proofs.«01_k».proof.Proof.Ideal.Decode

@[expose] public section

set_option maxRecDepth 16384

noncomputable section

namespace Cert.ReferenceIdeal.Gat

open Cert.ReferenceIdeal Cert.ReferenceIdeal.Gen Cert.ReferenceIdeal.Read
open Idealize.ShloMosaic Idealize.ShloMosaic.TcCoe Idealize.ShloMosaic.StableHlo
open Cert.KernelIdeal.Hand (col128 col64 head128 head64 proj1 proj2 node1 node2 attn1 attn2 lower upper decode)

/-! # The reference's arrays are the kernel's -/

variable (x0 : FVec Ideal S2048x256 .f32) (x1 : FVec Ideal S2048x2048 .f32) (x2 : FVec Ideal S256x1024 .f32) (x3 x4 : FVec Ideal S8x128 .f32)
  (x5 : FVec Ideal S1024x512 .f32) (x6 x7 : FVec Ideal S8x64 .f32) (x8 x9 : FVec Ideal S512x256 .f32)

/-! ## First layer -/

theorem product1 : val_main_v0 (F := Ideal) x0 x2 = proj1 x0 x2 := by
  funext y
  rw [val_main_v0_apply]
  refine Finset.sum_congr rfl fun k _ => ?_
  congr 2 <;> (funext a; match a with | ⟨0, _⟩ => rfl | ⟨1, _⟩ => rfl)

/-- Head by head, the features are the columns of the product. -/
theorem features1 (i : Fin 2048) (h : Fin 8) (o : Fin 128) :
    val_main_v1 (F := Ideal) x0 x2 (ix3 i h o) = proj1 x0 x2 (ix2 i (col128 h o)) := by
  rw [val_main_v1_apply, product1]
  congr 1
  funext a
  match a with
  | ⟨0, _⟩ => exact Fin.ext (show ((i.val * 8 + h.val) * 128 + o.val) / 1024 = i.val by omega)
  | ⟨1, _⟩ => exact Fin.ext (show ((i.val * 8 + h.val) * 128 + o.val) % 1024 = 128 * h.val + o.val by omega)

theorem receivers1 (i : Fin 2048) (h : Fin 8) :
    val_main_v5 (F := Ideal) x0 x2 x3 (ix2 i h) = ∑ o : Fin 128, proj1 x0 x2 (ix2 i (col128 h o)) * x3 (ix2 h o) := by
  simp only [← features1]
  pointwise [val_main_v5, val_main_v4, val_main_v3, val_main_v2, val_main_cst]

theorem senders1 (i : Fin 2048) (h : Fin 8) :
    val_main_v9 (F := Ideal) x0 x2 x4 (ix2 i h) = ∑ o : Fin 128, proj1 x0 x2 (ix2 i (col128 h o)) * x4 (ix2 h o) :=
  receivers1 x0 x2 x4 i h

/-- What the weights gather, before the activation. -/
theorem gathered1 (i : Fin 2048) (h : Fin 8) (o : Fin 128) : val_main_v38 (F := Ideal) x0 x1 x2 x3 x4 (ix3 i h o)
    = ∑ j, val_main_v36 (F := Ideal) x0 x1 x2 x3 x4 (ix3 i j h) * val_main_v1 (F := Ideal) x0 x2 (ix3 j h o) := by
  rw [val_main_v38_apply, val_main_v37_apply]
  refine Finset.sum_congr rfl fun k _ => ?_
  rw [mul_comm]
  congr 2 <;> (funext a; match a with | ⟨0, _⟩ => rfl | ⟨1, _⟩ => rfl | ⟨2, _⟩ => rfl)

theorem row1 (i : Fin 2048) (h : Fin 8) (o : Fin 128) : val_main_v78 (F := Ideal) x0 x1 x2 x3 x4 (ix3 i h o)
    = Cert.Gat.refRow (val_main_v5 (F := Ideal) x0 x2 x3 (ix2 i h)) (fun j => val_main_v9 (F := Ideal) x0 x2 x4 (ix2 j h))
        (fun j => x1 (ix2 i j)) (fun j => proj1 x0 x2 (ix2 j (col128 h o))) := by
  rw [active1, elu_eq, gathered1, weights1]
  simp only [softmax_apply, scores_apply, features1]
  rfl

/-- The hidden layer. -/
theorem hidden1 : val_main_v79 (F := Ideal) x0 x1 x2 x3 x4
    = attn1 (fun y => node1 (proj1 x0 x2) x3 (y 0) (y 1)) (fun y => node1 (proj1 x0 x2) x4 (y 1) (y 0)) x1 (proj1 x0 x2) := by
  funext y
  idx_vars y
  have hc : col128 (head128 y1) ⟨y1.val % 128, Nat.mod_lt _ (by decide)⟩ = y1 := Fin.ext (by show 128 * (y1.val / 128) + y1.val % 128 = y1.val; omega)
  rw [val_main_v79_apply]
  refine (congrArg (val_main_v78 (F := Ideal) x0 x1 x2 x3 x4) (funext fun a => ?_ : _
    = ix3 y0 (head128 y1) ⟨y1.val % 128, Nat.mod_lt _ (by decide)⟩)).trans ?_
  · match a with
    | ⟨0, _⟩ => exact Fin.ext (show (y0.val * 1024 + y1.val) / 1024 = y0.val by omega)
    | ⟨1, _⟩ => exact Fin.ext (show (y0.val * 1024 + y1.val) / 128 % 8 = y1.val / 128 by omega)
    | ⟨2, _⟩ => exact Fin.ext (show (y0.val * 1024 + y1.val) % 128 = y1.val % 128 by omega)
  rw [row1, hc, ← Cert.Gat.row_eq]
  simp only [receivers1, senders1]
  rfl

/-! ## Second layer -/

/-- The hidden layer's features. -/
abbrev feat2 : S2048x512.Idx → EReal := proj2 (val_main_v79 (F := Ideal) x0 x1 x2 x3 x4) x5

theorem product2 : val_main_v80 (F := Ideal) x0 x1 x2 x3 x4 x5 = feat2 x0 x1 x2 x3 x4 x5 := by
  funext y
  rw [val_main_v80_apply]
  refine Finset.sum_congr rfl fun k _ => ?_
  congr 2 <;> (funext a; match a with | ⟨0, _⟩ => rfl | ⟨1, _⟩ => rfl)

theorem features2 (i : Fin 2048) (h : Fin 8) (o : Fin 64) :
    val_main_v81 (F := Ideal) x0 x1 x2 x3 x4 x5 (ix3 i h o) = feat2 x0 x1 x2 x3 x4 x5 (ix2 i (col64 h o)) := by
  rw [val_main_v81_apply, product2]
  congr 1
  funext a
  match a with
  | ⟨0, _⟩ => exact Fin.ext (show ((i.val * 8 + h.val) * 64 + o.val) / 512 = i.val by omega)
  | ⟨1, _⟩ => exact Fin.ext (show ((i.val * 8 + h.val) * 64 + o.val) % 512 = 64 * h.val + o.val by omega)

theorem receivers2 (i : Fin 2048) (h : Fin 8) : val_main_v85 (F := Ideal) x0 x1 x2 x3 x4 x5 x6 (ix2 i h)
    = ∑ o : Fin 64, feat2 x0 x1 x2 x3 x4 x5 (ix2 i (col64 h o)) * x6 (ix2 h o) := by
  simp only [← features2]
  pointwise [val_main_v85, val_main_v84, val_main_v83, val_main_v82, val_main_cst_16]

theorem senders2 (i : Fin 2048) (h : Fin 8) : val_main_v89 (F := Ideal) x0 x1 x2 x3 x4 x5 x7 (ix2 i h)
    = ∑ o : Fin 64, feat2 x0 x1 x2 x3 x4 x5 (ix2 i (col64 h o)) * x7 (ix2 h o) :=
  receivers2 x0 x1 x2 x3 x4 x5 x7 i h

theorem gathered2 (i : Fin 2048) (h : Fin 8) (o : Fin 64) : val_main_v118 (F := Ideal) x0 x1 x2 x3 x4 x5 x6 x7 (ix3 i h o)
    = ∑ j, val_main_v116 (F := Ideal) x0 x1 x2 x3 x4 x5 x6 x7 (ix3 i j h) * val_main_v81 (F := Ideal) x0 x1 x2 x3 x4 x5 (ix3 j h o) := by
  rw [val_main_v118_apply, val_main_v117_apply]
  refine Finset.sum_congr rfl fun k _ => ?_
  rw [mul_comm]
  congr 2 <;> (funext a; match a with | ⟨0, _⟩ => rfl | ⟨1, _⟩ => rfl | ⟨2, _⟩ => rfl)

theorem row2 (i : Fin 2048) (h : Fin 8) (o : Fin 64) : val_main_v158 (F := Ideal) x0 x1 x2 x3 x4 x5 x6 x7 (ix3 i h o)
    = Cert.Gat.refRow (val_main_v85 (F := Ideal) x0 x1 x2 x3 x4 x5 x6 (ix2 i h))
        (fun j => val_main_v89 (F := Ideal) x0 x1 x2 x3 x4 x5 x7 (ix2 j h))
        (fun j => x1 (ix2 i j)) (fun j => feat2 x0 x1 x2 x3 x4 x5 (ix2 j (col64 h o))) := by
  rw [active2, elu_eq, gathered2, weights2]
  simp only [softmax_apply, scores_apply, features2]
  rfl

/-- The embeddings. -/
theorem hidden2 : val_main_v159 (F := Ideal) x0 x1 x2 x3 x4 x5 x6 x7
    = attn2 (fun y => node2 (feat2 x0 x1 x2 x3 x4 x5) x6 (y 0) (y 1)) (fun y => node2 (feat2 x0 x1 x2 x3 x4 x5) x7 (y 1) (y 0)) x1
        (feat2 x0 x1 x2 x3 x4 x5) := by
  funext y
  idx_vars y
  have hc : col64 (head64 y1) ⟨y1.val % 64, Nat.mod_lt _ (by decide)⟩ = y1 := Fin.ext (by show 64 * (y1.val / 64) + y1.val % 64 = y1.val; omega)
  rw [val_main_v159_apply]
  refine (congrArg (val_main_v158 (F := Ideal) x0 x1 x2 x3 x4 x5 x6 x7) (funext fun a => ?_ : _
    = ix3 y0 (head64 y1) ⟨y1.val % 64, Nat.mod_lt _ (by decide)⟩)).trans ?_
  · match a with
    | ⟨0, _⟩ => exact Fin.ext (show (y0.val * 512 + y1.val) / 512 = y0.val by omega)
    | ⟨1, _⟩ => exact Fin.ext (show (y0.val * 512 + y1.val) / 64 % 8 = y1.val / 64 by omega)
    | ⟨2, _⟩ => exact Fin.ext (show (y0.val * 512 + y1.val) % 64 = y1.val % 64 by omega)
  rw [row2, hc, ← Cert.Gat.row_eq]
  simp only [receivers2, senders2]
  rfl

/-! ## The decoder -/

/-- The first half's embeddings through a matrix, -/
theorem first (p : Fin 1024) (k : Fin 256) (i : S1024x256.Idx) (h0 : i 0 = p) (h1 : i 1 = k) :
    val_main_v161 (F := Ideal) x0 x1 x2 x3 x4 x5 x6 x7 x8 i
      = ∑ j : Fin 512, val_main_v159 (F := Ideal) x0 x1 x2 x3 x4 x5 x6 x7 (ix2 (lower p) j) * x8 (ix2 j k) := by
  subst h0 h1
  rw [val_main_v161_apply]
  refine Finset.sum_congr rfl fun j _ => ?_
  rw [val_main_v160_apply]
  generalize val_main_v159 (F := Ideal) x0 x1 x2 x3 x4 x5 x6 x7 = H
  exact congrArg₂ (fun a b => H a * x8 b) (funext fun a => match a with | ⟨0, _⟩ => rfl | ⟨1, _⟩ => rfl)
    (funext fun a => match a with | ⟨0, _⟩ => rfl | ⟨1, _⟩ => rfl)

/-- and the second half's through another. -/
theorem second (p : Fin 1024) (k : Fin 256) (i : S1024x256.Idx) (h0 : i 0 = p) (h1 : i 1 = k) :
    val_main_v163 (F := Ideal) x0 x1 x2 x3 x4 x5 x6 x7 x9 i
      = ∑ j : Fin 512, val_main_v159 (F := Ideal) x0 x1 x2 x3 x4 x5 x6 x7 (ix2 (upper p) j) * x9 (ix2 j k) := by
  subst h0 h1
  rw [val_main_v163_apply]
  refine Finset.sum_congr rfl fun j _ => ?_
  rw [val_main_v162_apply]
  generalize val_main_v159 (F := Ideal) x0 x1 x2 x3 x4 x5 x6 x7 = H
  exact congrArg₂ (fun a b => H a * x9 b) (funext fun a => match a with | ⟨0, _⟩ => rfl | ⟨1, _⟩ => rfl)
    (funext fun a => match a with | ⟨0, _⟩ => rfl | ⟨1, _⟩ => rfl)

theorem decoded : val_main_v165 (F := Ideal) x0 x1 x2 x3 x4 x5 x6 x7 x8 x9
    = decode (val_main_v159 (F := Ideal) x0 x1 x2 x3 x4 x5 x6 x7) x8 x9 := by
  funext y
  rw [val_main_v165_apply]
  refine Finset.sum_congr rfl fun k _ => ?_
  rw [val_main_v164_apply, first x0 x1 x2 x3 x4 x5 x6 x7 x8 (y 0) k _ rfl rfl, second x0 x1 x2 x3 x4 x5 x6 x7 x9 (y 1) k _ rfl rfl]

end Cert.ReferenceIdeal.Gat

end
-- ==== Proof.Reference.Equal.lean ====
module

public import proofs.«01_k».proof.Proof.Reference.Layers
public import proofs.«01_k».proof.Proof.Ideal.Result

@[expose] public section

set_option maxRecDepth 16384

noncomputable section

namespace Cert.Equal

open Cert.ReferenceIdeal.Read (val_main_v79 val_main_v159 val_main_v166)
open Cert.ReferenceIdeal.Gat (hidden1 hidden2 decoded feat2)
open Idealize.ShloMosaic Idealize.ShloMosaic.TcCoe
open Cert.KernelIdeal.Hand (H1 H2)
open Cert.KernelIdeal.Gen
open Cert.KernelIdeal

/-! # The two results are equal -/

variable (m : (ℓ : Loc Cert.KernelIdeal.nD Cert.KernelIdeal.τ Cert.KernelIdeal.sig) → Buf (Elt Ideal) ℓ) (c : Dev Cert.KernelIdeal.nD)

/-- The reference's hidden layer of the kernel's arguments is the kernel's. -/
theorem hidden1_eq : val_main_v79 (F := Ideal) (V m c main_arg0) (V m c main_arg1)
    (V m c main_arg2) (V m c main_arg3) (V m c main_arg4) = H1 m c :=
  hidden1 _ _ _ _ _

/-- So are its embeddings. -/
theorem hidden2_eq : val_main_v159 (F := Ideal) (V m c main_arg0) (V m c main_arg1)
    (V m c main_arg2) (V m c main_arg3) (V m c main_arg4) (V m c main_arg5)
    (V m c main_arg6) (V m c main_arg7) = H2 m c := by
  rw [hidden2, feat2, hidden1_eq]
  rfl

/-- And its result. -/
theorem result_eq : val_main_v166 (F := Ideal) (V m c main_arg0) (V m c main_arg1)
    (V m c main_arg2) (V m c main_arg3) (V m c main_arg4) (V m c main_arg5)
    (V m c main_arg6) (V m c main_arg7) (V m c main_arg8) (V m c main_arg9)
      = Cert.KernelIdeal.Track.flat m c := by
  rw [val_main_v166, decoded, hidden2_eq]
  rfl

end Cert.Equal

end
-- ==== Proof.Reference.Series.lean ====
module

public import proofs.«01_k».proof.Proof.Ideal.Math
public import Mathlib.Analysis.Complex.Exponential

@[expose] public section

noncomputable section

namespace Cert.Gat

open Idealize.ShloMosaic

/-! # How far the series is from the function

The kernel's activation, and the reference's with it, take `e ^ x - 1` by seven terms of its series where `-1/4 < x ≤ 0`. Elsewhere they
take it as it is. So on every real number the activation is the exponential linear unit to within `2 ^ -31`. -/

/-- The exponential linear unit on the reals. -/
def elu (r : ℝ) : ℝ := if 0 < r then r else Real.exp r - 1

theorem series_close (r : ℝ) (h0 : -(1 / 4) < r) (h1 : r ≤ 0) :
    |r + r * r / 2 + r * r * r / 6 + r * r * (r * r) / 24 + r * (r * r * (r * r)) / 120 + r * r * (r * r * (r * r)) / 720
      + r * (r * r) * (r * r * (r * r)) / 5040 - (Real.exp r - 1)| ≤ (2 : ℝ)⁻¹ ^ 31 := by
  have ha : |r| ≤ 1 / 4 := by rw [abs_of_nonpos h1]; linarith
  have hb := Real.exp_bound (x := r) (by linarith) (n := 8) (by norm_num)
  have hp : |r| ^ 8 ≤ (1 / 4) ^ 8 := pow_le_pow_left₀ (abs_nonneg r) ha 8
  rw [abs_sub_comm] at hb
  simp only [Finset.sum_range_succ, Finset.sum_range_zero, Nat.factorial] at hb
  norm_num at hb
  refine le_trans (le_of_eq (congrArg _ ?_)) (hb.trans ?_)
  · ring
  · norm_num at hp ⊢
    linarith

/-- The activation of a real number is the exponential linear unit of it, to within `2 ^ -31`. -/
theorem refElu_close (r : ℝ) : ∃ s : ℝ, refElu (r : EReal) = (s : EReal) ∧ |s - elu r| ≤ (2 : ℝ)⁻¹ ^ 31 := by
  have hz : |(0 : ℝ)| ≤ (2 : ℝ)⁻¹ ^ 31 := by norm_num
  unfold refElu elu
  by_cases hp : 0 < r
  · exact ⟨r, by rw [if_pos (by exact_mod_cast hp)], by rw [if_pos hp, sub_self]; exact hz⟩
  rw [if_neg (by exact_mod_cast hp), if_neg hp]
  by_cases hq : -(1 / 4) < r
  · rw [if_pos (by exact_mod_cast hq)]
    refine ⟨_, ?_, series_close r hq (not_lt.mp hp)⟩
    simp only [← EReal.coe_mul, div_coe _ _ (by norm_num : (2 : ℝ) ≠ 0), div_coe _ _ (by norm_num : (6 : ℝ) ≠ 0),
      div_coe _ _ (by norm_num : (24 : ℝ) ≠ 0), div_coe _ _ (by norm_num : (120 : ℝ) ≠ 0), div_coe _ _ (by norm_num : (720 : ℝ) ≠ 0),
      div_coe _ _ (by norm_num : (5040 : ℝ) ≠ 0), ← EReal.coe_add]
  · rw [if_neg (by exact_mod_cast hq)]
    exact ⟨Real.exp r - 1, by rw [EReal.coe_sub]; rfl, by rw [sub_self]; exact hz⟩

end Cert.Gat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Word.Frame
public import proofs.«01_k».proof.Proof.Ideal.Frame
public import proofs.«01_k».proof.Proof.Ideal.Result
public import proofs.«01_k».proof.Proof.Reference.Equal
public import proofs.«01_k».proof.Proof.Reference.Series
public import Idealize.ShloMosaic.Adequacy
public import Idealize.ShloMosaic.Init

@[expose] public section

noncomputable section

namespace Cert.Proof

open Idealize.ShloMosaic Idealize.SL.Sem Cert.Kernel

/-- The idealized kernel is the printed kernel with its two named constants read as `1 / log 2` and minus infinity. -/
theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xDA388472#32 ⊥ rfl⟩

/-- The reference runs, leaves its arguments as they were, and every counter ends at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Track.flat m c, Cert.KernelIdeal.Track.run m g, ?_⟩
  refine (θ_run Cert.ReferenceIdeal.defs _ _).mono (fun r h c => ⟨?_, (h c).2⟩) (Cert.ReferenceIdeal.Value.run (F := Ideal) m' g')
  obtain ⟨h0, h1, h2, h3, h4, h5, h6, h7, h8, h9⟩ := hagree c
  refine ((h c).1.trans (Cert.ReferenceIdeal.Read.val_main_v166_eq (StableHlo.launchContents m' c))).trans ?_
  simp only [StableHlo.launchContents_devRef, h0, h1, h2, h3, h4, h5, h6, h7, h8, h9]
  exact Cert.Equal.result_eq m c

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_reference, preserves, algebraic⟩

end Cert.Proof

end
